-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arrays [hPre_finite_arrays : Cert.Pre_finite_arrays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arrays [hPre_finite_arrays : Cert.Pre_finite_arrays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arrays [hKernelIdeal : Cert.KernelIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arrays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arrays [hReferenceIdeal : Cert.ReferenceIdeal.Facts] [hPre_finite_arrays : Cert.Pre_finite_arrays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arrays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_arrays [hKernelIdeal : Cert.KernelIdeal.Facts] [hReferenceIdeal : Cert.ReferenceIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arrays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arrays : Cert.Pre_finite_arrays.Facts),
    quiescent_Kernel (hKernel := hKernel)
    ∧ quiescent_KernelIdeal (hKernelIdeal := hKernelIdeal)
    ∧ quiescent_KernelIdeal_pre_finite_arrays (hKernelIdeal := hKernelIdeal) (hPre_finite_arrays := hPre_finite_arrays)
    ∧ quiescent_ReferenceIdeal (hReferenceIdeal := hReferenceIdeal)
    ∧ quiescent_ReferenceIdeal_pre_finite_arrays (hReferenceIdeal := hReferenceIdeal) (hPre_finite_arrays := hPre_finite_arrays)
    ∧ preserves_Kernel_KernelIdeal
    ∧ algebraic_KernelIdeal_ReferenceIdeal_pre_finite_arrays (hKernelIdeal := hKernelIdeal) (hReferenceIdeal := hReferenceIdeal) (hPre_finite_arrays := hPre_finite_arrays)
-- ==== Pre_finite_arrays.lean ====
abbrev S16x4096x256 : Shape := ⟨3, ![16, 4096, 256]⟩
abbrev S64x4096x256 : Shape := ⟨3, ![64, 4096, 256]⟩
abbrev S64 : Shape := ⟨1, ![64]⟩
abbrev S_ : Shape := ⟨0, ![]⟩
abbrev S16x1x4096x256 : Shape := ⟨4, ![16, 1, 4096, 256]⟩
abbrev S1x64x4096x256 : Shape := ⟨4, ![1, 64, 4096, 256]⟩
abbrev S16x64x4096x256 : Shape := ⟨4, ![16, 64, 4096, 256]⟩

class Facts : Prop where
  bcast_S_S16x4096x256 : S_.BroadcastsInDim S16x4096x256 (![] : Fin 0 → Fin S16x4096x256.rank)
  bcast_S_S64x4096x256 : S_.BroadcastsInDim S64x4096x256 (![] : Fin 0 → Fin S64x4096x256.rank)
  bcast_S16x4096x256_S16x1x4096x256_0_2_3 : S16x4096x256.BroadcastsInDim S16x1x4096x256 (![0, 2, 3] : Fin 3 → Fin S16x1x4096x256.rank)
  bcast_S64x4096x256_S1x64x4096x256_1_2_3 : S64x4096x256.BroadcastsInDim S1x64x4096x256 (![1, 2, 3] : Fin 3 → Fin S1x64x4096x256.rank)
  bcast_S16x1x4096x256_S16x64x4096x256_0_1_2_3 : S16x1x4096x256.BroadcastsInDim S16x64x4096x256 (![0, 1, 2, 3] : Fin 4 → Fin S16x64x4096x256.rank)
  bcast_S1x64x4096x256_S16x64x4096x256_0_1_2_3 : S1x64x4096x256.BroadcastsInDim S16x64x4096x256 (![0, 1, 2, 3] : Fin 4 → Fin S16x64x4096x256.rank)

variable [Facts]

def fn {F : FTy → Type} [FloatOps F] (main_arg0 : FVec F S16x4096x256 .f32) (main_arg1 : FVec F S64x4096x256 .f32) (main_arg2 : IVec S64 32) : IVec S16x64x4096x256 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_v3 : FVec F S64x4096x256 .f32 := Host.absf main_arg1
  let main_cst_0 : FVec F S_ .f32 := constant S_ .f32 0x7F800000#32
  let main_v4 : FVec F S64x4096x256 .f32 := broadcastInDim S64x4096x256 ![] bcast_S_S64x4096x256 main_cst_0
  let main_v5 : IVec S64x4096x256 1 := cmpf .olt main_v3 main_v4
  let main_v6 : IVec S16x1x4096x256 1 := broadcastInDim S16x1x4096x256 ![0, 2, 3] bcast_S16x4096x256_S16x1x4096x256_0_2_3 main_v2
  let main_v7 : IVec S1x64x4096x256 1 := broadcastInDim S1x64x4096x256 ![1, 2, 3] bcast_S64x4096x256_S1x64x4096x256_1_2_3 main_v5
  let main_v8 : IVec S16x64x4096x256 1 := broadcastInDim S16x64x4096x256 ![0, 1, 2, 3] bcast_S16x1x4096x256_S16x64x4096x256_0_1_2_3 main_v6
  let main_v9 : IVec S16x64x4096x256 1 := broadcastInDim S16x64x4096x256 ![0, 1, 2, 3] bcast_S1x64x4096x256_S16x64x4096x256_0_1_2_3 main_v7
  let main_v10 : IVec S16x64x4096x256 1 := andi main_v8 main_v9
  main_v10
-- ==== Kernel.lean ====
abbrev S16x4096x256 : Shape := ⟨3, ![16, 4096, 256]⟩
abbrev S64x4096x256 : Shape := ⟨3, ![64, 4096, 256]⟩
abbrev S64 : Shape := ⟨1, ![64]⟩
abbrev S16x4096 : Shape := ⟨2, ![16, 4096]⟩
abbrev S16x512x256 : Shape := ⟨3, ![16, 512, 256]⟩
abbrev S4x512x256 : Shape := ⟨3, ![4, 512, 256]⟩
abbrev S16x512 : Shape := ⟨2, ![16, 512]⟩
abbrev S16x256x512 : Shape := ⟨3, ![16, 256, 512]⟩
abbrev S4x256x512 : Shape := ⟨3, ![4, 256, 512]⟩
abbrev S4x8x512 : Shape := ⟨3, ![4, 8, 512]⟩
abbrev S8x512 : Shape := ⟨2, ![8, 512]⟩
abbrev S1x8x512 : Shape := ⟨3, ![1, 8, 512]⟩
abbrev S512 : Shape := ⟨1, ![512]⟩
abbrev S4x512 : Shape := ⟨2, ![4, 512]⟩
abbrev S1x512 : Shape := ⟨2, ![1, 512]⟩
abbrev S1 : Shape := ⟨1, ![1]⟩
abbrev S_ : Shape := ⟨0, ![]⟩

abbrev nBuf : Space → Nat
  | .hbm => 19
  | .vmem => 17
  | .smem => 1
  | _ => 0

abbrev bufTy : (tb : Table) → Fin (tcTables nBuf tb) → BufTy
  | .hbm, ⟨0, _⟩ => ⟨S16x4096x256, .f32⟩
  | .hbm, ⟨1, _⟩ => ⟨S64x4096x256, .f32⟩
  | .hbm, ⟨2, _⟩ => ⟨S16x4096, .i32⟩
  | .hbm, ⟨3, _⟩ => ⟨S16x4096, .i32⟩
  | .hbm, ⟨4, _⟩ => ⟨S16x4096, .i32⟩
  | .hbm, ⟨5, _⟩ => ⟨S16x4096, .f32⟩
  | .hbm, ⟨6, _⟩ => ⟨S16x4096, .i32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S16x4096, .i1⟩
  | .hbm, ⟨11, _⟩ => ⟨S_, .i32⟩
  | .hbm, ⟨12, _⟩ => ⟨S16x4096, .i32⟩
  | .hbm, ⟨13, _⟩ => ⟨S16x4096, .i1⟩
  | .hbm, ⟨14, _⟩ => ⟨S16x4096, .i1⟩
  | .hbm, ⟨15, _⟩ => ⟨S_, .i32⟩
  | .hbm, ⟨16, _⟩ => ⟨S16x4096, .i32⟩
  | .hbm, ⟨17, _⟩ => ⟨S16x4096, .i1⟩
  | .hbm, ⟨18, _⟩ => ⟨S16x4096, .i1⟩
  | .local _ .vmem, ⟨0, _⟩ => ⟨S16x512x256, .f32⟩
  | .local _ .vmem, ⟨1, _⟩ => ⟨S16x512x256, .f32⟩
  | .local _ .vmem, ⟨2, _⟩ => ⟨S4x512x256, .f32⟩
  | .local _ .vmem, ⟨3, _⟩ => ⟨S4x512x256, .f32⟩
  | .local _ .vmem, ⟨4, _⟩ => ⟨S16x512, .i32⟩
  | .local _ .vmem, ⟨5, _⟩ => ⟨S16x512, .i32⟩
  | .local _ .vmem, ⟨6, _⟩ => ⟨S16x512, .i32⟩
  | .local _ .vmem, ⟨7, _⟩ => ⟨S16x512, .i32⟩
  | .local _ .vmem, ⟨8, _⟩ => ⟨S16x512, .i32⟩
  | .local _ .vmem, ⟨9, _⟩ => ⟨S16x512, .i32⟩
  | .local _ .vmem, ⟨10, _⟩ => ⟨S16x512, .f32⟩
  | .local _ .vmem, ⟨11, _⟩ => ⟨S16x512, .f32⟩
  | .local _ .vmem, ⟨12, _⟩ => ⟨S16x512, .i32⟩
  | .local _ .vmem, ⟨13, _⟩ => ⟨S16x512, .i32⟩
  | .local _ .vmem, ⟨14, _⟩ => ⟨S16x256x512, .f32⟩
  | .local _ .vmem, ⟨15, _⟩ => ⟨S16x512, .f32⟩
  | .local _ .vmem, ⟨16, _⟩ => ⟨S4x256x512, .f32⟩
  | .local _ .smem, ⟨0, _⟩ => ⟨S64, .i32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_468 : BitVec 32) : Fin 1 → Nat :=
  let arg1 : BitVec 32 := BitVec.ofNat 32 (i 1).val
  let c4_i32 : BitVec 32 := 4#32
  let v1085 : BitVec 32 := Scalar.muli arg1 c4_i32
  let v1086 : BitVec 32 := Scalar.addi v1085 c0_i32_468
  let v1087 : Index := Scalar.indexCast v1086
  ![v1087.toNat]
def k0_cond2 (i : grid0.Coords) : BitVec 1 :=
  let arg1 : BitVec 32 := BitVec.ofNat 32 (i 1).val
  let c15_i32 : BitVec 32 := 15#32
  let v3837 : BitVec 1 := Scalar.cmpi .eq arg1 c15_i32
  let v3838 : BitVec 32 := Scalar.extui v3837
  let c0_i32_2110 : BitVec 32 := 0#32
  let v3839 : BitVec 1 := Scalar.cmpi .ne v3838 c0_i32_2110
  v3839

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x4096x256 : Shape := ⟨3, ![16, 4096, 256]⟩
abbrev S64x4096x256 : Shape := ⟨3, ![64, 4096, 256]⟩
abbrev S64 : Shape := ⟨1, ![64]⟩
abbrev S16x1x4096x256 : Shape := ⟨4, ![16, 1, 4096, 256]⟩
abbrev S1x64x4096x256 : Shape := ⟨4, ![1, 64, 4096, 256]⟩
abbrev S16x64x4096x256 : Shape := ⟨4, ![16, 64, 4096, 256]⟩
abbrev S_ : Shape := ⟨0, ![]⟩
abbrev S16x64x4096 : Shape := ⟨3, ![16, 64, 4096]⟩
abbrev S16x4096 : Shape := ⟨2, ![16, 4096]⟩
abbrev S16x4096x1 : Shape := ⟨3, ![16, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S64x4096x256, .f32⟩
  | .hbm, ⟨2, _⟩ => ⟨S64, .i32⟩
  | .hbm, ⟨3, _⟩ => ⟨S16x1x4096x256, .f32⟩
  | .hbm, ⟨4, _⟩ => ⟨S1x64x4096x256, .f32⟩
  | .hbm, ⟨5, _⟩ => ⟨S16x64x4096x256, .f32⟩
  | .hbm, ⟨6, _⟩ => ⟨S16x64x4096x256, .f32⟩
  | .hbm, ⟨7, _⟩ => ⟨S16x64x4096x256, .f32⟩
  | .hbm, ⟨8, _⟩ => ⟨S_, .f32⟩
  | .hbm, ⟨9, _⟩ => ⟨S16x64x4096x256, .f32⟩
  | .hbm, ⟨10, _⟩ => ⟨S16x64x4096x256, .f32⟩
  | .hbm, ⟨11, _⟩ => ⟨S_, .f32⟩
  | .hbm, ⟨12, _⟩ => ⟨S16x64x4096, .f32⟩
  | .hbm, ⟨13, _⟩ => ⟨S_, .f32⟩
  | .hbm, ⟨14, _⟩ => ⟨S16x4096, .f32⟩
  | .hbm, ⟨15, _⟩ => ⟨S16x64x4096, .i32⟩
  | .hbm, ⟨16, _⟩ => ⟨S_, .f32⟩
  | .hbm, ⟨17, _⟩ => ⟨S_, .i32⟩
  | .hbm, ⟨18, _⟩ => ⟨S16x4096, .f32⟩
  | .hbm, ⟨19, _⟩ => ⟨S16x4096, .i32⟩
  | .hbm, ⟨20, _⟩ => ⟨S_, .f32⟩
  | .hbm, ⟨21, _⟩ => ⟨S16x4096, .f32⟩
  | .hbm, ⟨22, _⟩ => ⟨S16x4096, .i1⟩
  | .hbm, ⟨23, _⟩ => ⟨S_, .f32⟩
  | .hbm, ⟨24, _⟩ => ⟨S16x4096, .f32⟩
  | .hbm, ⟨25, _⟩ => ⟨S16x4096, .i1⟩
  | .hbm, ⟨26, _⟩ => ⟨S_, .f32⟩
  | .hbm, ⟨27, _⟩ => ⟨S16x4096, .f32⟩
  | .hbm, ⟨28, _⟩ => ⟨S16x4096, .i1⟩
  | .hbm, ⟨29, _⟩ => ⟨S_, .i32⟩
  | .hbm, ⟨30, _⟩ => ⟨S16x4096, .i32⟩
  | .hbm, ⟨31, _⟩ => ⟨S16x4096, .i1⟩
  | .hbm, ⟨32, _⟩ => ⟨S_, .i32⟩
  | .hbm, ⟨33, _⟩ => ⟨S16x4096, .i32⟩
  | .hbm, ⟨34, _⟩ => ⟨S16x4096, .i32⟩
  | .hbm, ⟨35, _⟩ => ⟨S16x4096, .i32⟩
  | .hbm, ⟨36, _⟩ => ⟨S16x4096x1, .i32⟩
  | .hbm, ⟨37, _⟩ => ⟨S16x4096, .i32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Proof.Setup.lean ====
/- The launch of the ideal kernel: which points fetch and write back each window, the host lines after the
   region, the prefetched table, the branch conditions and the staging buffers. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem fetch0_0 (a : (pcfg0 (F := F)).Adm) : ∀ t : Fin (cfg0 a).N, ((cfg0 a).win 0).fetch t = true ↔ t.val % 16 = 0 :=
  (fun t => Pipeline.Window.fetchOf_reads cc0_transform_0 reads0_0 hreads0_0 0 (by decide) (by decide) (Pipeline.Window.sep_of_coord cc0_transform_0 0 1 (fun _ => rfl) (by decide)) (P := 16) (by decide) t : ∀ t : Fin grid0.N, Pipeline.Window.fetchOf grid0 false cc0_transform_0 t = true ↔ t.val % 16 = 0)
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
theorem flush0_2 (a : (pcfg0 (F := F)).Adm) : ∀ t : Fin (cfg0 a).N, ((cfg0 a).win 2).flush t = true ↔ t.val % 16 = 15 :=
  (fun t => Pipeline.Window.flushOf_reads cc0_transform_2 reads0_2 hreads0_2 0 (by decide) (by decide) (Pipeline.Window.sep_of_coord cc0_transform_2 0 1 (fun _ => rfl) (by decide)) (P := 16) (m := 15) (by decide) rfl t : ∀ t : Fin grid0.N, Pipeline.Window.flushOf grid0 true cc0_transform_2 t = true ↔ t.val % 16 = 15)
theorem flush0_3 (a : (pcfg0 (F := F)).Adm) : ∀ t : Fin (cfg0 a).N, ((cfg0 a).win 3).flush t = true ↔ t.val % 16 = 15 :=
  (fun t => Pipeline.Window.flushOf_reads cc0_transform_3 reads0_3 hreads0_3 0 (by decide) (by decide) (Pipeline.Window.sep_of_coord cc0_transform_3 0 1 (fun _ => rfl) (by decide)) (P := 16) (m := 15) (by decide) rfl t : ∀ t : Fin grid0.N, Pipeline.Window.flushOf grid0 true cc0_transform_3 t = true ↔ t.val % 16 = 15)
theorem flush0_4 (a : (pcfg0 (F := F)).Adm) : ∀ t : Fin (cfg0 a).N, ((cfg0 a).win 4).flush t = true ↔ t.val % 16 = 15 :=
  (fun t => Pipeline.Window.flushOf_reads cc0_transform_4 reads0_4 hreads0_4 0 (by decide) (by decide) (Pipeline.Window.sep_of_coord cc0_transform_4 0 1 (fun _ => rfl) (by decide)) (P := 16) (m := 15) (by decide) rfl t : ∀ t : Fin grid0.N, Pipeline.Window.flushOf grid0 true cc0_transform_4 t = true ↔ t.val % 16 = 15)
theorem flush0_5 (a : (pcfg0 (F := F)).Adm) : ∀ t : Fin (cfg0 a).N, ((cfg0 a).win 5).flush t = true ↔ t.val % 16 = 15 :=
  (fun t => Pipeline.Window.flushOf_reads cc0_transform_5 reads0_5 hreads0_5 0 (by decide) (by decide) (Pipeline.Window.sep_of_coord cc0_transform_5 0 1 (fun _ => rfl) (by decide)) (P := 16) (m := 15) (by decide) rfl t : ∀ t : Fin grid0.N, Pipeline.Window.flushOf grid0 true cc0_transform_5 t = true ↔ t.val % 16 = 15)
theorem flush0_6 (a : (pcfg0 (F := F)).Adm) : ∀ t : Fin (cfg0 a).N, ((cfg0 a).win 6).flush t = true ↔ t.val % 16 = 15 :=
  (fun t => Pipeline.Window.flushOf_reads cc0_transform_6 reads0_6 hreads0_6 0 (by decide) (by decide) (Pipeline.Window.sep_of_coord cc0_transform_6 0 1 (fun _ => rfl) (by decide)) (P := 16) (m := 15) (by decide) rfl t : ∀ t : Fin grid0.N, Pipeline.Window.flushOf grid0 true cc0_transform_6 t = true ↔ t.val % 16 = 15)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

abbrev bodyAt0 (a : (pcfg0 (F := F)).Adm) (t : Fin (cfg0 a).N) : Prog (TpuEff nD τ sig (Elt F) Λ₀ .tc) PUnit :=
  cc0__body (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)

abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S64 .i32 := Memref.whole main_arg2
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (by decide : main_arg2 ∈ Pipeline.restRefs sig spec0)).trans (W_main_arg2 m hO dats c))⟩) h

abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

abbrev cond0_1 (i : grid0.Coords) : Prop := k0_cond2 i = 1#1
theorem hcond0_1 : ∀ t : Fin grid0.N, cond0_1 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)

theorem liveAt0_5 (hO : Ok m) : ∀ t : Fin (cfgM m hO).N, (cfgM m hO).idle 5 (grid0.coords t) = false :=
  (fun _ => rfl : ∀ t : Fin grid0.N, idle0 5 (grid0.coords t) = false)
theorem liveAt0_6 (hO : Ok m) : ∀ t : Fin (cfgM m hO).N, (cfgM m hO).idle 6 (grid0.coords t) = false :=
  (fun _ => rfl : ∀ t : Fin grid0.N, idle0 6 (grid0.coords t) = false)
/-- The three mask windows are idle away from the last template group, and not written back there. -/
theorem idleAt0_2 (hO : Ok m) : ∀ t : Fin (cfgM m hO).N, ¬cond0_1 (grid0.coords t) → (cfgM m hO).idle 2 (grid0.coords t) = true :=
  (by decide +kernel : ∀ t : Fin grid0.N, ¬cond0_1 (grid0.coords t) → idle0 2 (grid0.coords t) = true)
theorem noFlush0_2 (hO : Ok m) : ∀ t : Fin (cfgM m hO).N, ¬cond0_1 (grid0.coords t) → ((cfgM m hO).win 2).flush t = false :=
  (by decide +kernel : ∀ t : Fin grid0.N, ¬cond0_1 (grid0.coords t) → Pipeline.Window.flushOf grid0 true cc0_transform_2 t = false)
theorem liveAt0_2 (hO : Ok m) : ∀ t : Fin (cfgM m hO).N, cond0_1 (grid0.coords t) → (cfgM m hO).idle 2 (grid0.coords t) = false :=
  (by decide +kernel : ∀ t : Fin grid0.N, cond0_1 (grid0.coords t) → idle0 2 (grid0.coords t) = false)
theorem idleAt0_3 (hO : Ok m) : ∀ t : Fin (cfgM m hO).N, ¬cond0_1 (grid0.coords t) → (cfgM m hO).idle 3 (grid0.coords t) = true :=
  (by decide +kernel : ∀ t : Fin grid0.N, ¬cond0_1 (grid0.coords t) → idle0 3 (grid0.coords t) = true)
theorem noFlush0_3 (hO : Ok m) : ∀ t : Fin (cfgM m hO).N, ¬cond0_1 (grid0.coords t) → ((cfgM m hO).win 3).flush t = false :=
  (by decide +kernel : ∀ t : Fin grid0.N, ¬cond0_1 (grid0.coords t) → Pipeline.Window.flushOf grid0 true cc0_transform_3 t = false)
theorem liveAt0_3 (hO : Ok m) : ∀ t : Fin (cfgM m hO).N, cond0_1 (grid0.coords t) → (cfgM m hO).idle 3 (grid0.coords t) = false :=
  (by decide +kernel : ∀ t : Fin grid0.N, cond0_1 (grid0.coords t) → idle0 3 (grid0.coords t) = false)
theorem idleAt0_4 (hO : Ok m) : ∀ t : Fin (cfgM m hO).N, ¬cond0_1 (grid0.coords t) → (cfgM m hO).idle 4 (grid0.coords t) = true :=
  (by decide +kernel : ∀ t : Fin grid0.N, ¬cond0_1 (grid0.coords t) → idle0 4 (grid0.coords t) = true)
theorem noFlush0_4 (hO : Ok m) : ∀ t : Fin (cfgM m hO).N, ¬cond0_1 (grid0.coords t) → ((cfgM m hO).win 4).flush t = false :=
  (by decide +kernel : ∀ t : Fin grid0.N, ¬cond0_1 (grid0.coords t) → Pipeline.Window.flushOf grid0 true cc0_transform_4 t = false)
theorem liveAt0_4 (hO : Ok m) : ∀ t : Fin (cfgM m hO).N, cond0_1 (grid0.coords t) → (cfgM m hO).idle 4 (grid0.coords t) = false :=
  (by decide +kernel : ∀ t : Fin grid0.N, cond0_1 (grid0.coords t) → idle0 4 (grid0.coords t) = false)
abbrev ms0_0 (hO : Ok m) (t : Fin (cfgM m hO).N) : Memref sig .tc .vmem S16x512x256 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4x512x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16x512 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S16x512 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S16x512 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S16x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S16x512 .i32 := spec0_6.stage ((cfgM m hO).slots t 6)
abbrev hs0_6 (hO : Ok m) (t : Fin (cfgM m hO).N) : (ms0_6 m hO t).IsWhole := hstage0_6 (((cfgM m hO).slots t 6).cast nbuf0_6)
abbrev scM0_0 : Memref sig .tc .vmem S16x256x512 .f32 := Memref.whole cc0_scratch0
abbrev scM0_1 : Memref sig .tc .vmem S16x512 .f32 := Memref.whole cc0_scratch1
abbrev scM0_2 : Memref sig .tc .vmem S4x256x512 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Near

end
-- ==== Proof.Spec.lean ====
/- What one grid point of the kernel computes, from what its loads read. -/
module

public import proofs.«01_k».proof.Proof.Setup
public import Idealize.ShloMosaic.Lib.Pointwise.Index
public import Idealize.ShloMosaic.Lib.Pipeline.Value

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.Sem

variable {F : FTy → Type} [FloatOps F]

/-! ## The boxes -/

/-- Rows `4q … 4q+3` of a block of rows by points. -/
theorem inb_row (q : Fin 4) : ∀ a, (![4 * q.val, 0] : Fin 2 → ℕ) a + S4x512.size a ≤ S16x512.size a := by
  revert q; decide

/-- Four rows of a block of sixteen. -/
abbrev rowBox (q : Fin 4) : Rect S16x512 := Rect.unit ![4 * q.val, 0] S4x512.size (inb_row q)

theorem inb_x (q : Fin 4) (k : Fin 32) :
    ∀ a, (![4 * q.val, 8 * k.val, 0] : Fin 3 → ℕ) a + S4x8x512.size a ≤ S16x256x512.size a := by
  revert q k; decide

/-- Channels `8k … 8k+7` of rows `4q … 4q+3` of the transposed queries. -/
abbrev xBox (q : Fin 4) (k : Fin 32) : Rect S16x256x512 :=
  Rect.unit ![4 * q.val, 8 * k.val, 0] S4x8x512.size (inb_x q k)

theorem inb_t (u : Fin 4) (k : Fin 32) :
    ∀ a, (![u.val, 8 * k.val, 0] : Fin 3 → ℕ) a + S1x8x512.size a ≤ S4x256x512.size a := by
  revert u k; decide

/-- Channels `8k … 8k+7` of template `u` of the group. -/
abbrev tBox (u : Fin 4) (k : Fin 32) : Rect S4x256x512 :=
  Rect.unit ![u.val, 8 * k.val, 0] S1x8x512.size (inb_t u k)

/-- The group of rows of a step. -/
def q4 (n : ℕ) : Fin 4 := ⟨n / 4 % 4, Nat.mod_lt _ (by decide)⟩
/-- The template of a step. -/
def u4 (n : ℕ) : Fin 4 := ⟨n % 4, Nat.mod_lt _ (by decide)⟩
/-- A chunk of eight feature columns. -/
def k32 (n : ℕ) : Fin 32 := ⟨n % 32, Nat.mod_lt _ (by decide)⟩

section
variable (X : Fin 4 → Fin 32 → Vec F S4x8x512 .f32) (T : Fin 4 → Fin 32 → Vec F S1x8x512 .f32)
  (XN : Fin 4 → Vec F S4x512 .f32)

/-- The products of the first `n` channel chunks, added up. -/
def accN (q u : Fin 4) (n : ℕ) : FVec F S4x8x512 .f32 :=
  Nat.rec (motive := fun _ => FVec F S4x8x512 .f32) (broadcast S4x8x512 (Scalar.ofBits .f32 0x00000000#32))
    (fun k a => addf a (mulf (X q (k32 k)) (broadcastTo S4x8x512
      (shapeCast S1x8x512 (shapeCast S8x512 (T u (k32 k)) shapeCasts_S1x8x512_S8x512) shapeCasts_S8x512_S1x8x512)
      broadcasts_S1x8x512_S4x8x512))) n

/-- The template's squares of the first `n` channel chunks, added up. -/
def sqN (u : Fin 4) (n : ℕ) : FVec F S8x512 .f32 :=
  Nat.rec (motive := fun _ => FVec F S8x512 .f32) (broadcast S8x512 (Scalar.ofBits .f32 0x00000000#32))
    (fun k a => addf a (mulf (shapeCast S8x512 (T u (k32 k)) shapeCasts_S1x8x512_S8x512)
      (shapeCast S8x512 (T u (k32 k)) shapeCasts_S1x8x512_S8x512))) n

/-- The distances of rows `4q … 4q+3` to template `u` of the group. -/
def distQ (q u : Fin 4) : FVec F S4x512 .f32 :=
  subf (addf (XN q) (broadcastTo S4x512 (shapeCast S1x512
      (multiReduction .add [0] S512 (sqN T u 32) 0x00000000#32 reduces_S8x512_S512 (.inl rfl) rfl)
      shapeCasts_S512_S1x512) broadcasts_S1x512_S4x512))
    (mulf (broadcast S4x512 (Scalar.ofBits .f32 0x40000000#32))
      (multiReduction .add [1] S4x512 (accN X T q u 32) 0x00000000#32 reduces_S4x8x512_S4x512 (.inl rfl) rfl))

variable (PD : Fin 4 → Vec F S4x512 .f32) (PC : Fin 4 → Vec F S4x512 .i32) (CW : Fin 4 → Elt F .i32) (fst : BitVec 1)
  (v8 : View sig .tc .vmem S16x512 .f32) (v9 : View sig .tc .vmem S16x512 .i32)

/-- Which entries template `u` improves, given the running distances read before it. -/
def betterQ (q u : Fin 4) (prev : Vec F S4x512 .f32) : IVec S4x512 1 :=
  Nat.rec (motive := fun _ => IVec S4x512 1)
    (ori (cmpf .olt (distQ X T XN q u) (shapeCast S4x512 prev shapeCasts_S4x512_S4x512)) (broadcast S4x512 fst))
    (fun _ _ => cmpf .olt (distQ X T XN q u) (shapeCast S4x512 prev shapeCasts_S4x512_S4x512)) u.val

/-- The running distances after template `u`, given those before it. -/
def stepD (q u : Fin 4) (prev : Vec F S4x512 .f32) : FVec F S4x512 .f32 :=
  select (betterQ X T XN fst q u prev) (distQ X T XN q u) (shapeCast S4x512 prev shapeCasts_S4x512_S4x512)

/-- The running classes after template `u`, given the distances and classes before it. -/
def stepC (q u : Fin 4) (prev : Vec F S4x512 .f32) (prevC : Vec F S4x512 .i32) : IVec S4x512 32 :=
  select (betterQ X T XN fst q u prev) (broadcast S4x512 (CW u)) (shapeCast S4x512 prevC shapeCasts_S4x512_S4x512)

/-- The stores to the distance block after `n` (row group, template) pairs, the last first. -/
def listD (n : ℕ) : List (View.Piece (Elt F) S16x512 .f32) :=
  Nat.rec (motive := fun _ => List (View.Piece (Elt F) S16x512 .f32)) []
    (fun n L => ⟨rowBox (q4 n), stepD X T XN fst (q4 n) (u4 n)
      (Nat.rec (motive := fun _ => Vec F S4x512 .f32) (PD (q4 n))
        (fun _ _ => v8.readCov L (rowBox (q4 n)).toLoadRect) (u4 n).val)⟩ :: L) n

/-- The running distances read before pair `n`. -/
def prevD (n : ℕ) : Vec F S4x512 .f32 :=
  Nat.rec (motive := fun _ => Vec F S4x512 .f32) (PD (q4 n))
    (fun _ _ => v8.readCov (listD X T XN PD fst v8 n) (rowBox (q4 n)).toLoadRect) (u4 n).val

/-- The stores to the class block after `n` pairs, the last first. -/
def listC (n : ℕ) : List (View.Piece (Elt F) S16x512 .i32) :=
  Nat.rec (motive := fun _ => List (View.Piece (Elt F) S16x512 .i32)) []
    (fun n L => ⟨rowBox (q4 n), stepC X T XN CW fst (q4 n) (u4 n) (prevD X T XN PD fst v8 n)
      (Nat.rec (motive := fun _ => Vec F S4x512 .i32) (PC (q4 n))
        (fun _ _ => v9.readCov L (rowBox (q4 n)).toLoadRect) (u4 n).val)⟩ :: L) n

/-! ## The running values, row group by row group -/

/-- The running distances of row group `q` after templates `0 … n` of the group. -/
def keepD (q : Fin 4) : ℕ → Vec F S4x512 .f32
  | 0 => stepD X T XN fst q 0 (PD q)
  | n + 1 => stepD X T XN fst q (u4 (n + 1)) (keepD q n)

/-- The running classes of row group `q` after templates `0 … n` of the group. -/
def keepC (q : Fin 4) : ℕ → Vec F S4x512 .i32
  | 0 => stepC X T XN CW fst q 0 (PD q) (PC q)
  | n + 1 => stepC X T XN CW fst q (u4 (n + 1)) (keepD X T XN PD fst q n) (keepC q n)

/-- One more store of distances. -/
theorem listD_succ (n : ℕ) : listD X T XN PD fst v8 (n + 1) =
    ⟨rowBox (q4 n), stepD X T XN fst (q4 n) (u4 n) (prevD X T XN PD fst v8 n)⟩ :: listD X T XN PD fst v8 n := rfl

/-- The classes read before pair `n`. -/
def prevC (n : ℕ) : Vec F S4x512 .i32 :=
  Nat.rec (motive := fun _ => Vec F S4x512 .i32) (PC (q4 n))
    (fun _ _ => v9.readCov (listC X T XN PD PC CW fst v8 v9 n) (rowBox (q4 n)).toLoadRect) (u4 n).val

/-- One more store of classes. -/
theorem listC_succ (n : ℕ) : listC X T XN PD PC CW fst v8 v9 (n + 1) =
    ⟨rowBox (q4 n), stepC X T XN CW fst (q4 n) (u4 n) (prevD X T XN PD fst v8 n)
      (prevC X T XN PD PC CW fst v8 v9 n)⟩ :: listC X T XN PD PC CW fst v8 v9 n := rfl

theorem q4_pair (q : Fin 4) (u : ℕ) (h : u < 4) : q4 (4 * q.val + u) = q :=
  Fin.ext (by have := q.isLt; show (4 * q.val + u) / 4 % 4 = q.val; omega)

theorem u4_pair (q : Fin 4) (u : ℕ) (h : u < 4) : u4 (4 * q.val + u) = ⟨u, h⟩ :=
  Fin.ext (by have := q.isLt; show (4 * q.val + u) % 4 = u; omega)

theorem u4_of_lt (u : ℕ) (h : u < 4) : u4 u = ⟨u, h⟩ := Fin.ext (Nat.mod_eq_of_lt h)

/-- The stored distances of pair `(q, u)` are the running ones. -/
theorem stored_D (q : Fin 4) : ∀ u : ℕ, u < 4 →
    stepD X T XN fst (q4 (4 * q.val + u)) (u4 (4 * q.val + u)) (prevD X T XN PD fst v8 (4 * q.val + u))
      = keepD X T XN PD fst q u
  | 0, h => by
    unfold prevD
    rw [q4_pair q 0 h, u4_pair q 0 h]
    rfl
  | u + 1, h => by
    have ih := stored_D q u (by omega)
    unfold prevD
    rw [q4_pair q (u + 1) h, u4_pair q (u + 1) h]
    show stepD X T XN fst q ⟨u + 1, h⟩
      (v8.readCov (listD X T XN PD fst v8 (4 * q.val + u + 1)) (rowBox q).toLoadRect) = _
    rw [listD_succ, ih, q4_pair q u (by omega), View.readCov_cons_toLoadRect]
    show _ = stepD X T XN fst q (u4 (u + 1)) _
    rw [u4_of_lt (u + 1) h]

/-- The running distances read before pair `(q, u+1)` are those after `(q, u)`. -/
theorem prev_D (q : Fin 4) (u : ℕ) (h : u + 1 < 4) :
    prevD X T XN PD fst v8 (4 * q.val + (u + 1)) = keepD X T XN PD fst q u := by
  unfold prevD
  rw [q4_pair q (u + 1) h, u4_pair q (u + 1) h]
  show v8.readCov (listD X T XN PD fst v8 (4 * q.val + u + 1)) (rowBox q).toLoadRect = _
  rw [listD_succ, stored_D X T XN PD fst v8 q u (by omega), q4_pair q u (by omega), View.readCov_cons_toLoadRect]

/-- The stored classes of pair `(q, u)` are the running ones. -/
theorem stored_C (q : Fin 4) : ∀ u : ℕ, u < 4 →
    stepC X T XN CW fst (q4 (4 * q.val + u)) (u4 (4 * q.val + u)) (prevD X T XN PD fst v8 (4 * q.val + u))
      (prevC X T XN PD PC CW fst v8 v9 (4 * q.val + u)) = keepC X T XN PD PC CW fst q u
  | 0, h => by
    unfold prevD prevC
    rw [q4_pair q 0 h, u4_pair q 0 h]
    rfl
  | u + 1, h => by
    have ih := stored_C q u (by omega)
    rw [prev_D X T XN PD fst v8 q u h]
    unfold prevC
    rw [q4_pair q (u + 1) h, u4_pair q (u + 1) h]
    show stepC X T XN CW fst q ⟨u + 1, h⟩ _
      (v9.readCov (listC X T XN PD PC CW fst v8 v9 (4 * q.val + u + 1)) (rowBox q).toLoadRect) = _
    rw [listC_succ, ih, q4_pair q u (by omega), View.readCov_cons_toLoadRect]
    show _ = stepC X T XN CW fst q (u4 (u + 1)) _ _
    rw [u4_of_lt (u + 1) h]

end

/-! ## What the stores leave -/

/-- The row group of an index of a block. -/
def rowQ (y : S16x512.Idx) : Fin 4 := ⟨(y 0).val / 4, by have := (y 0).isLt; change _ < 16 at this; omega⟩

/-- The index within its row group. -/
def rowIn (y : S16x512.Idx) : S4x512.Idx := ix2 ⟨(y 0).val % 4, Nat.mod_lt _ (by decide)⟩ (y 1)

/-- Where an entry of a group of rows lies in the block. -/
theorem rowBox_emb (q : Fin 4) (x : S4x512.Idx) :
    (rowBox q).emb x = ix2 ⟨4 * q.val + (x 0).val, by have := q.isLt; have := (x 0).isLt; change _ < 4 at this; change _ < 16; omega⟩ (x 1) := by
  funext a
  refine Fin.ext ?_
  fin_cases a
  · show 4 * q.val + 1 * (x 0).val = 4 * q.val + (x 0).val
    omega
  · show 0 + 1 * (x 1).val = (x 1).val
    omega

/-- An entry lies in its own group of rows. -/
theorem emb_rowIn (y : S16x512.Idx) : (rowBox (rowQ y)).emb (rowIn y) = y := by
  rw [rowBox_emb]
  funext a
  refine Fin.ext ?_
  fin_cases a
  · show 4 * ((y 0).val / 4) + (y 0).val % 4 = (y 0).val
    omega
  · rfl

theorem rowQ_emb (q : Fin 4) (x : S4x512.Idx) : rowQ ((rowBox q).emb x) = q := by
  rw [rowBox_emb]
  refine Fin.ext ?_
  have := (x 0).isLt
  change _ < 4 at this
  show (4 * q.val + (x 0).val) / 4 = q.val
  omega

theorem rowIn_emb (q : Fin 4) (x : S4x512.Idx) : rowIn ((rowBox q).emb x) = x := by
  rw [rowBox_emb]
  funext a
  refine Fin.ext ?_
  fin_cases a
  · have := (x 0).isLt
    change _ < 4 at this
    show (4 * q.val + (x 0).val) % 4 = (x 0).val
    omega
  · rfl

section
variable {e : EltTy} (L : ℕ → List (View.Piece (Elt F) S16x512 e)) (w : ℕ → Vec F S4x512 e)
  (hL : ∀ n, L (n + 1) = ⟨rowBox (q4 n), w n⟩ :: L n)
include hL

/-- Every one of the first `n` stores is in the list of `n`. -/
theorem mem_list : ∀ n m : ℕ, m < n → (⟨rowBox (q4 m), w m⟩ : View.Piece (Elt F) S16x512 e) ∈ L n
  | 0, _, h => absurd h (Nat.not_lt_zero _)
  | n + 1, m, h => by
    rw [hL n]
    by_cases hm : m = n
    · subst hm; exact List.mem_cons_self
    · exact List.mem_cons_of_mem _ (mem_list n m (by omega))

/-- The sixteen stores cover the block. -/
theorem cover_list (y : S16x512.Idx) : ∃ p ∈ L 16, y ∈ p.1.set := by
  refine ⟨_, mem_list L w hL 16 (4 * (rowQ y).val + 3) (by have := (rowQ y).isLt; omega), ?_⟩
  rw [q4_pair (rowQ y) 3 (by decide)]
  show y ∈ (rowBox (rowQ y)).set
  conv => rw [← emb_rowIn y]
  rw [rowQ_emb]
  exact (rowBox (rowQ y)).idx_mem (rowIn y)

/-- The last store to a row group is what its rows are left at. -/
theorem canon_list (q : Fin 4) (x : S4x512.Idx) : ∀ d : ℕ, 4 * q.val + 4 + d ≤ 16 →
    View.canon (L (4 * q.val + 4 + d)) ((rowBox q).emb x) = w (4 * q.val + 3) x
  | 0, _ => by
    show View.canon (L (4 * q.val + 3 + 1)) _ = _
    rw [hL, q4_pair q 3 (by decide)]
    exact View.canon_cons_emb _ _ _ _
  | d + 1, h => by
    have ih := canon_list q x d (by omega)
    show View.canon (L (4 * q.val + 4 + d + 1)) _ = _
    rw [hL, View.canon_cons_of_not_mem _ _ ?_, ih]
    intro hm
    obtain ⟨x', hx'⟩ := (rowBox (q4 (4 * q.val + 4 + d))).exists_idx_of_mem hm
    have h1 := rowQ_emb (q4 (4 * q.val + 4 + d)) x'
    have h2 := rowQ_emb q x
    have h3 : q4 (4 * q.val + 4 + d) = q := h1.symm.trans ((congrArg rowQ hx').trans h2)
    have h4 : (4 * q.val + 4 + d) / 4 % 4 = q.val := congrArg Fin.val h3
    omega

/-- After the sixteen steps an entry holds its group's last store. -/
theorem canon_list_all (y : S16x512.Idx) : View.canon (L 16) y = w (4 * (rowQ y).val + 3) (rowIn y) := by
  have h := canon_list L w hL (rowQ y) (rowIn y) (12 - 4 * (rowQ y).val) (by have := (rowQ y).isLt; omega)
  rw [emb_rowIn] at h
  rw [← h]
  congr 2
  have := (rowQ y).isLt
  omega

end

variable (XS : Vec F S16x256x512 .f32) (TS : Vec F S4x256x512 .f32) (XNV : Vec F S16x512 .f32)
  (D : Vec F S16x512 .f32) (C : Vec F S16x512 .i32) (CW : Fin 4 → Elt F .i32) (fst : BitVec 1)

/-- The distance block after a point: from the transposed queries, the transposed templates, the queries' squared
    norms and the block before. -/
def outD : Vec F S16x512 .f32 := fun y =>
  keepD (fun q k => View.ld XS (xBox q k)) (fun u k => View.ld TS (tBox u k)) (fun q => View.ld XNV (rowBox q))
    (fun q => View.ld D (rowBox q)) fst (rowQ y) 3 (rowIn y)

/-- The class block after a point, likewise. -/
def outC : Vec F S16x512 .i32 := fun y =>
  keepC (fun q k => View.ld XS (xBox q k)) (fun u k => View.ld TS (tBox u k)) (fun q => View.ld XNV (rowBox q))
    (fun q => View.ld D (rowBox q)) (fun q => View.ld C (rowBox q)) CW fst (rowQ y) 3 (rowIn y)

variable (v8 : View sig .tc .vmem S16x512 .f32) (v9 : View sig .tc .vmem S16x512 .i32)

/-- The stores to the distance block, over the contents the loads read. -/
abbrev storesD (n : ℕ) : List (View.Piece (Elt F) S16x512 .f32) :=
  listD (fun q k => View.ld XS (xBox q k)) (fun u k => View.ld TS (tBox u k)) (fun q => View.ld XNV (rowBox q))
    (fun q => View.ld D (rowBox q)) fst v8 n

/-- The stores to the class block, over the contents the loads read. -/
abbrev storesC (n : ℕ) : List (View.Piece (Elt F) S16x512 .i32) :=
  listC (fun q k => View.ld XS (xBox q k)) (fun u k => View.ld TS (tBox u k)) (fun q => View.ld XNV (rowBox q))
    (fun q => View.ld D (rowBox q)) (fun q => View.ld C (rowBox q)) CW fst v8 v9 n

/-- The stores of distances reach every entry. -/
theorem cover_D (y : S16x512.Idx) : ∃ p ∈ storesD XS TS XNV D fst v8 16, y ∈ p.1.set :=
  cover_list _ _ (fun n => listD_succ _ _ _ _ _ _ n) y

/-- The stores of classes reach every entry. -/
theorem cover_C (y : S16x512.Idx) : ∃ p ∈ storesC XS TS XNV D C CW fst v8 v9 16, y ∈ p.1.set :=
  cover_list _ _ (fun n => listC_succ _ _ _ _ _ _ _ _ _ n) y

/-- The distance block after a grid point. -/
theorem canon_D : View.canon (storesD XS TS XNV D fst v8 16) = outD XS TS XNV D fst := by
  funext y
  rw [canon_list_all _ _ (fun n => listD_succ _ _ _ _ _ _ n) y, stored_D _ _ _ _ _ _ _ 3 (by decide)]
  rfl

/-- The class block after a grid point. -/
theorem canon_C : View.canon (storesC XS TS XNV D C CW fst v8 v9 16) = outC XS TS XNV D C CW fst := by
  funext y
  rw [canon_list_all _ _ (fun n => listC_succ _ _ _ _ _ _ _ _ _ n) y, stored_C _ _ _ _ _ _ _ _ _ _ 3 (by decide)]
  rfl

/-- A load of a whole buffer through the box of its own size, held at `x`, reads `x`. -/
theorem readAt_whole {κ : Kind} {sp : Space} {S : Shape} {e : EltTy} {M : Memref sig κ sp S e} (hM : M.IsWhole)
    (x : Vec F S e) (r : Rect S) : View.readAt (Elt F) M.view r.toLoadRect (hM.unread x) = View.ld x r := by
  rw [View.readAt_eq_ld, hM.read_unread]

/-- Through the whole box it reads `x` itself. -/
theorem readAt_full {κ : Kind} {sp : Space} {S : Shape} {e : EltTy} {M : Memref sig κ sp S e} (hM : M.IsWhole)
    (x : Vec F S e) {off : Fin S.rank → ℕ} (inb : ∀ a, off a + S.size a ≤ S.size a) (h : off = fun _ => 0) :
    View.readAt (Elt F) M.view (Rect.unit off S.size inb).toLoadRect (hM.unread x) = x := by
  rw [readAt_whole]
  exact View.ld_unit_zero h inb x

/-- A load of a buffer one store has filled reads that store's value. -/
theorem readCov_one {κ : Kind} {sp : Space} {S : Shape} {e : EltTy} (v : View sig κ sp S e) (x : Vec F S e)
    {off : Fin S.rank → ℕ} (inb : ∀ a, off a + S.size a ≤ S.size a) (h : off = fun _ => 0) (r : Rect S) :
    v.readCov [(⟨Rect.unit off S.size inb, x⟩ : View.Piece (Elt F) S e)] r.toLoadRect = View.ld x r := by
  rw [View.readCov_eq_canon', View.canon_cons_unit_zero h]

theorem zero2 : (![0, 0] : Fin 2 → ℕ) = fun _ => 0 := by decide
theorem zero3 : (![0, 0, 0] : Fin 3 → ℕ) = fun _ => 0 := by decide

/-- Stores that cover a buffer leave it reading their last values. -/
theorem readM_of {sp : Space} {S : Shape} {e : EltTy} (M : Memref sig .tc sp S e) (L : List (View.Piece (Elt F) S e)) (x : Vec F S e)
    (f : M.view.ty.Contents (Elt F)) (hc : ∀ y, ∃ p ∈ L, y ∈ p.1.set) (hx : View.canon L = x) :
    M.view.read (Elt F) (M.view.writes (Elt F) f L) = x := by
  rw [View.read_writes_eq_canon _ _ _ hc, hx]

/-- One store of the whole buffer covers it. -/
theorem cover_one {S : Shape} {e : EltTy} {off : Fin S.rank → ℕ} (inb : ∀ a, off a + S.size a ≤ S.size a)
    (h : off = fun _ => 0) (x : Vec F S e) (y : S.Idx) :
    ∃ p ∈ [(⟨Rect.unit off S.size inb, x⟩ : View.Piece (Elt F) S e)], y ∈ p.1.set :=
  ⟨_, List.mem_cons_self, View.mem_set_unit_zero h inb y⟩

/-- The class words of a grid point: entries `4j … 4j+3` of the table. -/
def clsW (c : Dev nD) (i : grid0.Coords) (xt0 : TbBuf0 (F := F) c tbM0_0) (u : Fin 4) : Elt F .i32 :=
  View.readAt (Elt F) tbM0_0.view (Rect.unit (s := S64) (k0_off1 i (BitVec.ofNat 32 u.val)) S1.size (k0_off1_inb i u)).toLoadRect xt0
    (Shape.Idx.first (Nat.lt_of_lt_of_eq Nat.zero_lt_one numel1_S1.symm))

/-- Whether the point is the first of its block. -/
def fstW (i : grid0.Coords) : BitVec 1 := Scalar.cmpi .eq (BitVec.ofNat 32 (i 1).val) 0#32

end Cert.KernelIdeal.Near
-- ==== Proof.RunA.lean ====
/- The run of the kernel body, case A. -/
module

public import proofs.«01_k».proof.Proof.Setup

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first template group: the scratch is filled first. The running distance and class are held at `xo5`, `xo6`; what the stores
    leave is found by the run, as pieces. -/
noncomputable def runA (c : Dev nD) (i : grid0.Coords) (arg3 : Memref sig .tc .vmem S16x512x256 .f32) (harg3 : arg3.IsWhole) (arg4 : Memref sig .tc .vmem S4x512x256 .f32) (harg4 : arg4.IsWhole) (arg5 : Memref sig .tc .vmem S16x512 .i32) (harg5 : arg5.IsWhole) (arg6 : Memref sig .tc .vmem S16x512 .i32) (harg6 : arg6.IsWhole) (arg7 : Memref sig .tc .vmem S16x512 .i32) (harg7 : arg7.IsWhole) (arg8 : Memref sig .tc .vmem S16x512 .f32) (harg8 : arg8.IsWhole) (arg9 : Memref sig .tc .vmem S16x512 .i32) (harg9 : arg9.IsWhole) (arg10 : Memref sig .tc .vmem S16x256x512 .f32) (harg10 : arg10.IsWhole) (arg11 : Memref sig .tc .vmem S16x512 .f32) (harg11 : arg11.IsWhole) (arg12 : Memref sig .tc .vmem S4x256x512 .f32) (harg12 : arg12.IsWhole)
    (hc0 : cond0_0 i) (hc1 : ¬cond0_1 i)
    (x0 : Vec F S16x512x256 .f32) (x1 : Vec F S4x512x256 .f32) (xt0 : TbBuf0 (F := F) c tbM0_0) (xo5 : Vec F S16x512 .f32) (xo6 : Vec F S16x512 .i32) :
    Σ' (L5 : List (View.Piece (Elt F) S16x512 .f32)), Σ' (L6 : List (View.Piece (Elt F) S16x512 .i32)), Σ' (LT2 : List (View.Piece (Elt F) S4x256x512 .f32)), Σ' (LS0 : List (View.Piece (Elt F) S16x256x512 .f32)), { LS1 : List (View.Piece (Elt F) S16x512 .f32) //
      ∀ (xi2 : Vec F S16x512 .i32) (xi3 : Vec F S16x512 .i32) (xi4 : Vec F S16x512 .i32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xi4 ∗ owns (c : Thread nD τ) arg8 fullShare xo5 ∗ owns (c : Thread nD τ) arg9 fullShare xo6 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ tbPt0 c tbM0_0 xt0) -∗ K ⟨⟩))
          ⊢ wp frame (wpE (defs₀ (F := F)) Variants.none c none) E (cc0__body i tbM0_0 htbM0_0 arg3 harg3 arg4 harg4 arg5 harg5 arg6 harg6 arg7 harg7 arg8 harg8 arg9 harg9 arg10 harg10 arg11 harg11 arg12 harg12) K } := by
  refine ⟨?_, ?_, ?_, ?_, ?_, fun xi2 xi3 xi4 E K => ?run⟩
  case run =>
    simp only [cc0__body_eq_skeleton]; unfold cc0__body_skel
    simp only [k0_part101_eq_skeleton, k0_part102_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, HT0, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexact HT0

end Cert.KernelIdeal.Near

end
-- ==== Proof.FoundA.lean ====
/- The stores a run of the body finds are those of `Spec`: case A. -/
module

public import proofs.«01_k».proof.Proof.Spec
public import proofs.«01_k».proof.Proof.RunA

@[expose] public section

set_option maxRecDepth 65536

noncomputable section

namespace Cert.KernelIdeal.Near

open Cert.KernelIdeal.Gen
open Idealize.ShloMosaic Idealize.ShloMosaic.TcCoe Idealize.ShloMosaic.Tactic
open Idealize.SL Idealize.SL.Sem

variable {F : FTy → Type} [FloatOps F]

variable (c : Dev nD) (i : grid0.Coords) (arg3 : Memref sig .tc .vmem S16x512x256 .f32) (harg3 : arg3.IsWhole) (arg4 : Memref sig .tc .vmem S4x512x256 .f32) (harg4 : arg4.IsWhole) (arg5 : Memref sig .tc .vmem S16x512 .i32) (harg5 : arg5.IsWhole) (arg6 : Memref sig .tc .vmem S16x512 .i32) (harg6 : arg6.IsWhole) (arg7 : Memref sig .tc .vmem S16x512 .i32) (harg7 : arg7.IsWhole) (arg8 : Memref sig .tc .vmem S16x512 .f32) (harg8 : arg8.IsWhole) (arg9 : Memref sig .tc .vmem S16x512 .i32) (harg9 : arg9.IsWhole) (arg10 : Memref sig .tc .vmem S16x256x512 .f32) (harg10 : arg10.IsWhole) (arg11 : Memref sig .tc .vmem S16x512 .f32) (harg11 : arg11.IsWhole) (arg12 : Memref sig .tc .vmem S4x256x512 .f32) (harg12 : arg12.IsWhole) (hc0 : cond0_0 i) (hc1 : ¬cond0_1 i) (x0 : Vec F S16x512x256 .f32) (x1 : Vec F S4x512x256 .f32) (xt0 : TbBuf0 (F := F) c tbM0_0) (xo5 : Vec F S16x512 .f32) (xo6 : Vec F S16x512 .i32)

set_option maxHeartbeats 4000000 in
/-- The stores to the distance block, as found. -/
theorem rawD_A :
    (runA c i arg3 harg3 arg4 harg4 arg5 harg5 arg6 harg6 arg7 harg7 arg8 harg8 arg9 harg9 arg10 harg10 arg11 harg11 arg12 harg12 hc0 hc1 x0 x1 xt0 xo5 xo6).1 = listD (fun q k => arg10.view.readCov [⟨Rect.unit ![0, 0, 0] S16x256x512.size inb_S16x256x512_S16x256x512_0_0_0, k0_pay7 (View.readAt (Elt F) arg3.view (Rect.unit ![0, 0, 0] S16x512x256.size inb_S16x512x256_S16x512x256_0_0_0).toLoadRect (harg3.unread x0))⟩] (xBox q k).toLoadRect) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => arg11.view.readCov [⟨Rect.unit ![0, 0] S16x512.size inb_S16x512_S16x512_0_0, k0_pay8 (View.readAt (Elt F) arg3.view (Rect.unit ![0, 0, 0] S16x512x256.size inb_S16x512x256_S16x512x256_0_0_0).toLoadRect (harg3.unread x0))⟩] (rowBox q).toLoadRect) (fun q => View.readAt (Elt F) arg8.view (rowBox q).toLoadRect (harg8.unread xo5)) (fstW i) arg8.view 16 := by
  sl_kernel_rfl

set_option maxHeartbeats 4000000 in
/-- The stores to the class block, as found. -/
theorem rawC_A :
    (runA c i arg3 harg3 arg4 harg4 arg5 harg5 arg6 harg6 arg7 harg7 arg8 harg8 arg9 harg9 arg10 harg10 arg11 harg11 arg12 harg12 hc0 hc1 x0 x1 xt0 xo5 xo6).2.1 = listC (fun q k => arg10.view.readCov [⟨Rect.unit ![0, 0, 0] S16x256x512.size inb_S16x256x512_S16x256x512_0_0_0, k0_pay7 (View.readAt (Elt F) arg3.view (Rect.unit ![0, 0, 0] S16x512x256.size inb_S16x512x256_S16x512x256_0_0_0).toLoadRect (harg3.unread x0))⟩] (xBox q k).toLoadRect) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => arg11.view.readCov [⟨Rect.unit ![0, 0] S16x512.size inb_S16x512_S16x512_0_0, k0_pay8 (View.readAt (Elt F) arg3.view (Rect.unit ![0, 0, 0] S16x512x256.size inb_S16x512x256_S16x512x256_0_0_0).toLoadRect (harg3.unread x0))⟩] (rowBox q).toLoadRect) (fun q => View.readAt (Elt F) arg8.view (rowBox q).toLoadRect (harg8.unread xo5)) (fun q => View.readAt (Elt F) arg9.view (rowBox q).toLoadRect (harg9.unread xo6)) (clsW c i xt0) (fstW i) arg8.view arg9.view 16 := by
  sl_kernel_rfl

set_option maxHeartbeats 4000000 in
/-- The stores to the distance block. -/
theorem listD_A :
    (runA c i arg3 harg3 arg4 harg4 arg5 harg5 arg6 harg6 arg7 harg7 arg8 harg8 arg9 harg9 arg10 harg10 arg11 harg11 arg12 harg12 hc0 hc1 x0 x1 xt0 xo5 xo6).1 = storesD (k0_pay7 x0) (k0_pay9 x1) (k0_pay8 x0) xo5 (fstW i) arg8.view 16 := by
  have hx : (fun q k => arg10.view.readCov [⟨Rect.unit ![0, 0, 0] S16x256x512.size inb_S16x256x512_S16x256x512_0_0_0, k0_pay7 (View.readAt (Elt F) arg3.view (Rect.unit ![0, 0, 0] S16x512x256.size inb_S16x512x256_S16x512x256_0_0_0).toLoadRect (harg3.unread x0))⟩] (xBox q k).toLoadRect) = fun q k => View.ld (Val := Elt F) (k0_pay7 x0) (xBox q k) := by
    funext q k
    rw [readCov_one _ _ _ zero3, readAt_full harg3 x0 _ zero3]
  have hn : (fun q => arg11.view.readCov [⟨Rect.unit ![0, 0] S16x512.size inb_S16x512_S16x512_0_0, k0_pay8 (View.readAt (Elt F) arg3.view (Rect.unit ![0, 0, 0] S16x512x256.size inb_S16x512x256_S16x512x256_0_0_0).toLoadRect (harg3.unread x0))⟩] (rowBox q).toLoadRect) = fun q => View.ld (Val := Elt F) (k0_pay8 x0) (rowBox q) := by
    funext q
    rw [readCov_one _ _ _ zero2, readAt_full harg3 x0 _ zero3]
  have ht : (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) = fun u k => View.ld (Val := Elt F) (k0_pay9 x1) (tBox u k) := by
    funext u k
    rw [readCov_one _ _ _ zero3, readAt_full harg4 x1 _ zero3]
  have hd : (fun q => View.readAt (Elt F) arg8.view (rowBox q).toLoadRect (harg8.unread xo5)) = fun q => View.ld xo5 (rowBox q) := by
    funext q
    exact readAt_whole harg8 xo5 _
  rw [rawD_A, hx, hn, ht, hd]

set_option maxHeartbeats 4000000 in
/-- The stores to the class block. -/
theorem listC_A :
    (runA c i arg3 harg3 arg4 harg4 arg5 harg5 arg6 harg6 arg7 harg7 arg8 harg8 arg9 harg9 arg10 harg10 arg11 harg11 arg12 harg12 hc0 hc1 x0 x1 xt0 xo5 xo6).2.1 = storesC (k0_pay7 x0) (k0_pay9 x1) (k0_pay8 x0) xo5 xo6 (clsW c i xt0) (fstW i) arg8.view arg9.view 16 := by
  have hx : (fun q k => arg10.view.readCov [⟨Rect.unit ![0, 0, 0] S16x256x512.size inb_S16x256x512_S16x256x512_0_0_0, k0_pay7 (View.readAt (Elt F) arg3.view (Rect.unit ![0, 0, 0] S16x512x256.size inb_S16x512x256_S16x512x256_0_0_0).toLoadRect (harg3.unread x0))⟩] (xBox q k).toLoadRect) = fun q k => View.ld (Val := Elt F) (k0_pay7 x0) (xBox q k) := by
    funext q k
    rw [readCov_one _ _ _ zero3, readAt_full harg3 x0 _ zero3]
  have hn : (fun q => arg11.view.readCov [⟨Rect.unit ![0, 0] S16x512.size inb_S16x512_S16x512_0_0, k0_pay8 (View.readAt (Elt F) arg3.view (Rect.unit ![0, 0, 0] S16x512x256.size inb_S16x512x256_S16x512x256_0_0_0).toLoadRect (harg3.unread x0))⟩] (rowBox q).toLoadRect) = fun q => View.ld (Val := Elt F) (k0_pay8 x0) (rowBox q) := by
    funext q
    rw [readCov_one _ _ _ zero2, readAt_full harg3 x0 _ zero3]
  have ht : (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) = fun u k => View.ld (Val := Elt F) (k0_pay9 x1) (tBox u k) := by
    funext u k
    rw [readCov_one _ _ _ zero3, readAt_full harg4 x1 _ zero3]
  have hd : (fun q => View.readAt (Elt F) arg8.view (rowBox q).toLoadRect (harg8.unread xo5)) = fun q => View.ld xo5 (rowBox q) := by
    funext q
    exact readAt_whole harg8 xo5 _
  have hc : (fun q => View.readAt (Elt F) arg9.view (rowBox q).toLoadRect (harg9.unread xo6)) = fun q => View.ld xo6 (rowBox q) := by
    funext q
    exact readAt_whole harg9 xo6 _
  rw [rawC_A, hx, hn, ht, hd, hc]

set_option maxHeartbeats 4000000 in
/-- The store to the template scratch. -/
theorem rawT_A :
    (runA c i arg3 harg3 arg4 harg4 arg5 harg5 arg6 harg6 arg7 harg7 arg8 harg8 arg9 harg9 arg10 harg10 arg11 harg11 arg12 harg12 hc0 hc1 x0 x1 xt0 xo5 xo6).2.2.1 = [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] := by
  sl_kernel_rfl

set_option maxHeartbeats 4000000 in
/-- The store to the query scratch. -/
theorem rawS0_A :
    (runA c i arg3 harg3 arg4 harg4 arg5 harg5 arg6 harg6 arg7 harg7 arg8 harg8 arg9 harg9 arg10 harg10 arg11 harg11 arg12 harg12 hc0 hc1 x0 x1 xt0 xo5 xo6).2.2.2.1 = [⟨Rect.unit ![0, 0, 0] S16x256x512.size inb_S16x256x512_S16x256x512_0_0_0, k0_pay7 (View.readAt (Elt F) arg3.view (Rect.unit ![0, 0, 0] S16x512x256.size inb_S16x512x256_S16x512x256_0_0_0).toLoadRect (harg3.unread x0))⟩] := by
  sl_kernel_rfl

set_option maxHeartbeats 4000000 in
/-- The store to the norm scratch. -/
theorem rawS1_A :
    (runA c i arg3 harg3 arg4 harg4 arg5 harg5 arg6 harg6 arg7 harg7 arg8 harg8 arg9 harg9 arg10 harg10 arg11 harg11 arg12 harg12 hc0 hc1 x0 x1 xt0 xo5 xo6).2.2.2.2.val = [⟨Rect.unit ![0, 0] S16x512.size inb_S16x512_S16x512_0_0, k0_pay8 (View.readAt (Elt F) arg3.view (Rect.unit ![0, 0, 0] S16x512x256.size inb_S16x512x256_S16x512x256_0_0_0).toLoadRect (harg3.unread x0))⟩] := by
  sl_kernel_rfl

set_option maxHeartbeats 4000000 in
/-- The store to the query scratch. -/
theorem listS0_A :
    (runA c i arg3 harg3 arg4 harg4 arg5 harg5 arg6 harg6 arg7 harg7 arg8 harg8 arg9 harg9 arg10 harg10 arg11 harg11 arg12 harg12 hc0 hc1 x0 x1 xt0 xo5 xo6).2.2.2.1 = [⟨Rect.unit ![0, 0, 0] S16x256x512.size inb_S16x256x512_S16x256x512_0_0_0, k0_pay7 x0⟩] := by
  rw [rawS0_A, readAt_full harg3 x0 _ zero3]

set_option maxHeartbeats 4000000 in
/-- The store to the norm scratch. -/
theorem listS1_A :
    (runA c i arg3 harg3 arg4 harg4 arg5 harg5 arg6 harg6 arg7 harg7 arg8 harg8 arg9 harg9 arg10 harg10 arg11 harg11 arg12 harg12 hc0 hc1 x0 x1 xt0 xo5 xo6).2.2.2.2.val = [⟨Rect.unit ![0, 0] S16x512.size inb_S16x512_S16x512_0_0, k0_pay8 x0⟩] := by
  rw [rawS1_A, readAt_full harg3 x0 _ zero3]

set_option maxHeartbeats 4000000 in
/-- The distance block after the body. -/
theorem leftD_A (f : arg8.view.ty.Contents (Elt F)) :
    arg8.view.read (Elt F) (arg8.view.writes (Elt F) f (runA c i arg3 harg3 arg4 harg4 arg5 harg5 arg6 harg6 arg7 harg7 arg8 harg8 arg9 harg9 arg10 harg10 arg11 harg11 arg12 harg12 hc0 hc1 x0 x1 xt0 xo5 xo6).1) = outD (k0_pay7 x0) (k0_pay9 x1) (k0_pay8 x0) xo5 (fstW i) := by
  refine readM_of _ _ _ _ ?_ ?_
  · rw [listD_A]; exact cover_D _ _ _ _ _ _
  · rw [listD_A]; exact canon_D _ _ _ _ _ _

set_option maxHeartbeats 4000000 in
/-- The class block after the body. -/
theorem leftC_A (f : arg9.view.ty.Contents (Elt F)) :
    arg9.view.read (Elt F) (arg9.view.writes (Elt F) f (runA c i arg3 harg3 arg4 harg4 arg5 harg5 arg6 harg6 arg7 harg7 arg8 harg8 arg9 harg9 arg10 harg10 arg11 harg11 arg12 harg12 hc0 hc1 x0 x1 xt0 xo5 xo6).2.1) = outC (k0_pay7 x0) (k0_pay9 x1) (k0_pay8 x0) xo5 xo6 (clsW c i xt0) (fstW i) := by
  refine readM_of _ _ _ _ ?_ ?_
  · rw [listC_A]; exact cover_C _ _ _ _ _ _ _ _ _
  · rw [listC_A]; exact canon_C _ _ _ _ _ _ _ _ _

set_option maxHeartbeats 4000000 in
/-- The query scratch after the body. -/
theorem leftS0_A (f : arg10.view.ty.Contents (Elt F)) :
    arg10.view.read (Elt F) (arg10.view.writes (Elt F) f (runA c i arg3 harg3 arg4 harg4 arg5 harg5 arg6 harg6 arg7 harg7 arg8 harg8 arg9 harg9 arg10 harg10 arg11 harg11 arg12 harg12 hc0 hc1 x0 x1 xt0 xo5 xo6).2.2.2.1) = k0_pay7 x0 := by
  refine readM_of _ _ _ _ ?_ ?_
  · rw [listS0_A]; exact cover_one _ zero3 _
  · rw [listS0_A]; exact View.canon_cons_unit_zero zero3 _ _ _

set_option maxHeartbeats 4000000 in
/-- The norm scratch after the body. -/
theorem leftS1_A (f : arg11.view.ty.Contents (Elt F)) :
    arg11.view.read (Elt F) (arg11.view.writes (Elt F) f (runA c i arg3 harg3 arg4 harg4 arg5 harg5 arg6 harg6 arg7 harg7 arg8 harg8 arg9 harg9 arg10 harg10 arg11 harg11 arg12 harg12 hc0 hc1 x0 x1 xt0 xo5 xo6).2.2.2.2.val) = k0_pay8 x0 := by
  refine readM_of _ _ _ _ ?_ ?_
  · rw [listS1_A]; exact cover_one _ zero2 _
  · rw [listS1_A]; exact View.canon_cons_unit_zero zero2 _ _ _

end Cert.KernelIdeal.Near
-- ==== Proof.RunB.lean ====
/- The run of the kernel body, case B. -/
module

public import proofs.«01_k».proof.Proof.Setup

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body between the first and the last template group. The running distance and class are held at `xo5`, `xo6`; what the stores
    leave is found by the run, as pieces. -/
noncomputable def runB (c : Dev nD) (i : grid0.Coords) (arg3 : Memref sig .tc .vmem S16x512x256 .f32) (harg3 : arg3.IsWhole) (arg4 : Memref sig .tc .vmem S4x512x256 .f32) (harg4 : arg4.IsWhole) (arg5 : Memref sig .tc .vmem S16x512 .i32) (harg5 : arg5.IsWhole) (arg6 : Memref sig .tc .vmem S16x512 .i32) (harg6 : arg6.IsWhole) (arg7 : Memref sig .tc .vmem S16x512 .i32) (harg7 : arg7.IsWhole) (arg8 : Memref sig .tc .vmem S16x512 .f32) (harg8 : arg8.IsWhole) (arg9 : Memref sig .tc .vmem S16x512 .i32) (harg9 : arg9.IsWhole) (arg10 : Memref sig .tc .vmem S16x256x512 .f32) (harg10 : arg10.IsWhole) (arg11 : Memref sig .tc .vmem S16x512 .f32) (harg11 : arg11.IsWhole) (arg12 : Memref sig .tc .vmem S4x256x512 .f32) (harg12 : arg12.IsWhole)
    (hc0 : ¬cond0_0 i) (hc1 : ¬cond0_1 i)
    (x0 : Vec F S16x512x256 .f32) (x1 : Vec F S4x512x256 .f32) (xt0 : TbBuf0 (F := F) c tbM0_0) (xo5 : Vec F S16x512 .f32) (xo6 : Vec F S16x512 .i32) (xs0 : Vec F S16x256x512 .f32) (xs1 : Vec F S16x512 .f32) :
    Σ' (L5 : List (View.Piece (Elt F) S16x512 .f32)), Σ' (L6 : List (View.Piece (Elt F) S16x512 .i32)), { LT2 : List (View.Piece (Elt F) S4x256x512 .f32) //
      ∀ (xi2 : Vec F S16x512 .i32) (xi3 : Vec F S16x512 .i32) (xi4 : Vec F S16x512 .i32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xi4 ∗ owns (c : Thread nD τ) arg8 fullShare xo5 ∗ owns (c : Thread nD τ) arg9 fullShare xo6 ∗ owns (c : Thread nD τ) arg10 fullShare xs0 ∗ owns (c : Thread nD τ) arg11 fullShare xs1 ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ (∃ f, arg12.view.loc (c : Thread nD τ) ↦[arg12.view.set]{fullShare} arg12.view.writes (Elt F) f LT2) ∗ tbPt0 c tbM0_0 xt0) -∗ K ⟨⟩))
          ⊢ wp frame (wpE (defs₀ (F := F)) Variants.none c none) E (cc0__body i tbM0_0 htbM0_0 arg3 harg3 arg4 harg4 arg5 harg5 arg6 harg6 arg7 harg7 arg8 harg8 arg9 harg9 arg10 harg10 arg11 harg11 arg12 harg12) K } := by
  refine ⟨?_, ?_, ?_, fun xi2 xi3 xi4 E K => ?run⟩
  case run =>
    simp only [cc0__body_eq_skeleton]; unfold cc0__body_skel
    simp only [k0_part101_eq_skeleton, k0_part102_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, HT0, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    iexact HT0

end Cert.KernelIdeal.Near

end
-- ==== Proof.FoundB.lean ====
/- The stores a run of the body finds are those of `Spec`: case B. -/
module

public import proofs.«01_k».proof.Proof.Spec
public import proofs.«01_k».proof.Proof.RunB

@[expose] public section

set_option maxRecDepth 65536

noncomputable section

namespace Cert.KernelIdeal.Near

open Cert.KernelIdeal.Gen
open Idealize.ShloMosaic Idealize.ShloMosaic.TcCoe Idealize.ShloMosaic.Tactic
open Idealize.SL Idealize.SL.Sem

variable {F : FTy → Type} [FloatOps F]

variable (c : Dev nD) (i : grid0.Coords) (arg3 : Memref sig .tc .vmem S16x512x256 .f32) (harg3 : arg3.IsWhole) (arg4 : Memref sig .tc .vmem S4x512x256 .f32) (harg4 : arg4.IsWhole) (arg5 : Memref sig .tc .vmem S16x512 .i32) (harg5 : arg5.IsWhole) (arg6 : Memref sig .tc .vmem S16x512 .i32) (harg6 : arg6.IsWhole) (arg7 : Memref sig .tc .vmem S16x512 .i32) (harg7 : arg7.IsWhole) (arg8 : Memref sig .tc .vmem S16x512 .f32) (harg8 : arg8.IsWhole) (arg9 : Memref sig .tc .vmem S16x512 .i32) (harg9 : arg9.IsWhole) (arg10 : Memref sig .tc .vmem S16x256x512 .f32) (harg10 : arg10.IsWhole) (arg11 : Memref sig .tc .vmem S16x512 .f32) (harg11 : arg11.IsWhole) (arg12 : Memref sig .tc .vmem S4x256x512 .f32) (harg12 : arg12.IsWhole) (hc0 : ¬cond0_0 i) (hc1 : ¬cond0_1 i) (x0 : Vec F S16x512x256 .f32) (x1 : Vec F S4x512x256 .f32) (xt0 : TbBuf0 (F := F) c tbM0_0) (xo5 : Vec F S16x512 .f32) (xo6 : Vec F S16x512 .i32) (xs0 : Vec F S16x256x512 .f32) (xs1 : Vec F S16x512 .f32)

set_option maxHeartbeats 4000000 in
/-- The stores to the distance block, as found. -/
theorem rawD_B :
    (runB c i arg3 harg3 arg4 harg4 arg5 harg5 arg6 harg6 arg7 harg7 arg8 harg8 arg9 harg9 arg10 harg10 arg11 harg11 arg12 harg12 hc0 hc1 x0 x1 xt0 xo5 xo6 xs0 xs1).1 = listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16 := by
  sl_kernel_rfl

set_option maxHeartbeats 4000000 in
/-- The stores to the class block, as found. -/
theorem rawC_B :
    (runB c i arg3 harg3 arg4 harg4 arg5 harg5 arg6 harg6 arg7 harg7 arg8 harg8 arg9 harg9 arg10 harg10 arg11 harg11 arg12 harg12 hc0 hc1 x0 x1 xt0 xo5 xo6 xs0 xs1).2.1 = listC (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fun q => View.readAt (Elt F) arg9.view (rowBox q).toLoadRect (harg9.unread xo6)) (clsW c i xt0) (fstW i) arg8.view arg9.view 16 := by
  sl_kernel_rfl

set_option maxHeartbeats 4000000 in
/-- The stores to the distance block. -/
theorem listD_B :
    (runB c i arg3 harg3 arg4 harg4 arg5 harg5 arg6 harg6 arg7 harg7 arg8 harg8 arg9 harg9 arg10 harg10 arg11 harg11 arg12 harg12 hc0 hc1 x0 x1 xt0 xo5 xo6 xs0 xs1).1 = storesD xs0 (k0_pay9 x1) xs1 xo5 (fstW i) arg8.view 16 := by
  have hx : (fun q k => View.readAt (Elt F) arg10.view (xBox q k).toLoadRect (harg10.unread xs0)) = fun q k => View.ld xs0 (xBox q k) := by
    funext q k
    exact readAt_whole harg10 xs0 _
  have hn : (fun q => View.readAt (Elt F) arg11.view (rowBox q).toLoadRect (harg11.unread xs1)) = fun q => View.ld xs1 (rowBox q) := by
    funext q
    exact readAt_whole harg11 xs1 _
  have ht : (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) = fun u k => View.ld (Val := Elt F) (k0_pay9 x1) (tBox u k) := by
    funext u k
    rw [readCov_one _ _ _ zero3, readAt_full harg4 x1 _ zero3]
  have hd : (fun q => View.readAt (Elt F) arg8.view (rowBox q).toLoadRect (harg8.unread xo5)) = fun q => View.ld xo5 (rowBox q) := by
    funext q
    exact readAt_whole harg8 xo5 _
  rw [rawD_B, hx, hn, ht, hd]

set_option maxHeartbeats 4000000 in
/-- The stores to the class block. -/
theorem listC_B :
    (runB c i arg3 harg3 arg4 harg4 arg5 harg5 arg6 harg6 arg7 harg7 arg8 harg8 arg9 harg9 arg10 harg10 arg11 harg11 arg12 harg12 hc0 hc1 x0 x1 xt0 xo5 xo6 xs0 xs1).2.1 = storesC xs0 (k0_pay9 x1) xs1 xo5 xo6 (clsW c i xt0) (fstW i) arg8.view arg9.view 16 := by
  have hx : (fun q k => View.readAt (Elt F) arg10.view (xBox q k).toLoadRect (harg10.unread xs0)) = fun q k => View.ld xs0 (xBox q k) := by
    funext q k
    exact readAt_whole harg10 xs0 _
  have hn : (fun q => View.readAt (Elt F) arg11.view (rowBox q).toLoadRect (harg11.unread xs1)) = fun q => View.ld xs1 (rowBox q) := by
    funext q
    exact readAt_whole harg11 xs1 _
  have ht : (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) = fun u k => View.ld (Val := Elt F) (k0_pay9 x1) (tBox u k) := by
    funext u k
    rw [readCov_one _ _ _ zero3, readAt_full harg4 x1 _ zero3]
  have hd : (fun q => View.readAt (Elt F) arg8.view (rowBox q).toLoadRect (harg8.unread xo5)) = fun q => View.ld xo5 (rowBox q) := by
    funext q
    exact readAt_whole harg8 xo5 _
  have hc : (fun q => View.readAt (Elt F) arg9.view (rowBox q).toLoadRect (harg9.unread xo6)) = fun q => View.ld xo6 (rowBox q) := by
    funext q
    exact readAt_whole harg9 xo6 _
  rw [rawC_B, hx, hn, ht, hd, hc]

set_option maxHeartbeats 4000000 in
/-- The store to the template scratch. -/
theorem rawT_B :
    (runB c i arg3 harg3 arg4 harg4 arg5 harg5 arg6 harg6 arg7 harg7 arg8 harg8 arg9 harg9 arg10 harg10 arg11 harg11 arg12 harg12 hc0 hc1 x0 x1 xt0 xo5 xo6 xs0 xs1).2.2.val = [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] := by
  sl_kernel_rfl

set_option maxHeartbeats 4000000 in
/-- The distance block after the body. -/
theorem leftD_B (f : arg8.view.ty.Contents (Elt F)) :
    arg8.view.read (Elt F) (arg8.view.writes (Elt F) f (runB c i arg3 harg3 arg4 harg4 arg5 harg5 arg6 harg6 arg7 harg7 arg8 harg8 arg9 harg9 arg10 harg10 arg11 harg11 arg12 harg12 hc0 hc1 x0 x1 xt0 xo5 xo6 xs0 xs1).1) = outD xs0 (k0_pay9 x1) xs1 xo5 (fstW i) := by
  refine readM_of _ _ _ _ ?_ ?_
  · rw [listD_B]; exact cover_D _ _ _ _ _ _
  · rw [listD_B]; exact canon_D _ _ _ _ _ _

set_option maxHeartbeats 4000000 in
/-- The class block after the body. -/
theorem leftC_B (f : arg9.view.ty.Contents (Elt F)) :
    arg9.view.read (Elt F) (arg9.view.writes (Elt F) f (runB c i arg3 harg3 arg4 harg4 arg5 harg5 arg6 harg6 arg7 harg7 arg8 harg8 arg9 harg9 arg10 harg10 arg11 harg11 arg12 harg12 hc0 hc1 x0 x1 xt0 xo5 xo6 xs0 xs1).2.1) = outC xs0 (k0_pay9 x1) xs1 xo5 xo6 (clsW c i xt0) (fstW i) := by
  refine readM_of _ _ _ _ ?_ ?_
  · rw [listC_B]; exact cover_C _ _ _ _ _ _ _ _ _
  · rw [listC_B]; exact canon_C _ _ _ _ _ _ _ _ _

end Cert.KernelIdeal.Near
-- ==== Proof.RunC.lean ====
/- The run of the kernel body, case C. -/
module

public import proofs.«01_k».proof.Proof.Setup

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last template group: the masks are stored at the end. The running distance and class are held at `xo5`, `xo6`; what the stores
    leave is found by the run, as pieces. -/
noncomputable def runC (c : Dev nD) (i : grid0.Coords) (arg3 : Memref sig .tc .vmem S16x512x256 .f32) (harg3 : arg3.IsWhole) (arg4 : Memref sig .tc .vmem S4x512x256 .f32) (harg4 : arg4.IsWhole) (arg5 : Memref sig .tc .vmem S16x512 .i32) (harg5 : arg5.IsWhole) (arg6 : Memref sig .tc .vmem S16x512 .i32) (harg6 : arg6.IsWhole) (arg7 : Memref sig .tc .vmem S16x512 .i32) (harg7 : arg7.IsWhole) (arg8 : Memref sig .tc .vmem S16x512 .f32) (harg8 : arg8.IsWhole) (arg9 : Memref sig .tc .vmem S16x512 .i32) (harg9 : arg9.IsWhole) (arg10 : Memref sig .tc .vmem S16x256x512 .f32) (harg10 : arg10.IsWhole) (arg11 : Memref sig .tc .vmem S16x512 .f32) (harg11 : arg11.IsWhole) (arg12 : Memref sig .tc .vmem S4x256x512 .f32) (harg12 : arg12.IsWhole)
    (hc0 : ¬cond0_0 i) (hc1 : cond0_1 i)
    (x0 : Vec F S16x512x256 .f32) (x1 : Vec F S4x512x256 .f32) (xt0 : TbBuf0 (F := F) c tbM0_0) (xo5 : Vec F S16x512 .f32) (xo6 : Vec F S16x512 .i32) (xs0 : Vec F S16x256x512 .f32) (xs1 : Vec F S16x512 .f32) :
    Σ' (L5 : List (View.Piece (Elt F) S16x512 .f32)), Σ' (L6 : List (View.Piece (Elt F) S16x512 .i32)), Σ' (LT2 : List (View.Piece (Elt F) S4x256x512 .f32)), Σ' (L2 : List (View.Piece (Elt F) S16x512 .i32)), Σ' (L3 : List (View.Piece (Elt F) S16x512 .i32)), { L4 : List (View.Piece (Elt F) S16x512 .i32) //
      ∀  (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo5 ∗ owns (c : Thread nD τ) arg9 fullShare xo6 ∗ owns (c : Thread nD τ) arg10 fullShare xs0 ∗ owns (c : Thread nD τ) arg11 fullShare xs1 ∗ (∃ d, owns (c : Thread nD τ) arg12 fullShare d) ∗ tbPt0 c tbM0_0 xt0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ (∃ f, arg12.view.loc (c : Thread nD τ) ↦[arg12.view.set]{fullShare} arg12.view.writes (Elt F) f LT2) ∗ tbPt0 c tbM0_0 xt0) -∗ K ⟨⟩))
          ⊢ wp frame (wpE (defs₀ (F := F)) Variants.none c none) E (cc0__body i tbM0_0 htbM0_0 arg3 harg3 arg4 harg4 arg5 harg5 arg6 harg6 arg7 harg7 arg8 harg8 arg9 harg9 arg10 harg10 arg11 harg11 arg12 harg12) K } := by
  refine ⟨?_, ?_, ?_, ?_, ?_, ?_, fun  E K => ?run⟩
  case run =>
    simp only [cc0__body_eq_skeleton]; unfold cc0__body_skel
    simp only [k0_part101_eq_skeleton, k0_part102_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
    unfold owns
    iintro ⟨⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%d12, %f12, -, H12⟩, HT0, Hk⟩
    obtain rfl := harg3.eq_unread hf3; obtain rfl := harg4.eq_unread hf4; obtain rfl := harg8.eq_unread hf8; obtain rfl := harg9.eq_unread hf9; obtain rfl := harg10.eq_unread hf10; obtain rfl := harg11.eq_unread hf11
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    iexact HT0

end Cert.KernelIdeal.Near

end
-- ==== Proof.FoundC.lean ====
/- The stores a run of the body finds are those of `Spec`: case C. -/
module

public import proofs.«01_k».proof.Proof.Spec
public import proofs.«01_k».proof.Proof.RunC

@[expose] public section

set_option maxRecDepth 65536

noncomputable section

namespace Cert.KernelIdeal.Near

open Cert.KernelIdeal.Gen
open Idealize.ShloMosaic Idealize.ShloMosaic.TcCoe Idealize.ShloMosaic.Tactic
open Idealize.SL Idealize.SL.Sem

variable {F : FTy → Type} [FloatOps F]

variable (c : Dev nD) (i : grid0.Coords) (arg3 : Memref sig .tc .vmem S16x512x256 .f32) (harg3 : arg3.IsWhole) (arg4 : Memref sig .tc .vmem S4x512x256 .f32) (harg4 : arg4.IsWhole) (arg5 : Memref sig .tc .vmem S16x512 .i32) (harg5 : arg5.IsWhole) (arg6 : Memref sig .tc .vmem S16x512 .i32) (harg6 : arg6.IsWhole) (arg7 : Memref sig .tc .vmem S16x512 .i32) (harg7 : arg7.IsWhole) (arg8 : Memref sig .tc .vmem S16x512 .f32) (harg8 : arg8.IsWhole) (arg9 : Memref sig .tc .vmem S16x512 .i32) (harg9 : arg9.IsWhole) (arg10 : Memref sig .tc .vmem S16x256x512 .f32) (harg10 : arg10.IsWhole) (arg11 : Memref sig .tc .vmem S16x512 .f32) (harg11 : arg11.IsWhole) (arg12 : Memref sig .tc .vmem S4x256x512 .f32) (harg12 : arg12.IsWhole) (hc0 : ¬cond0_0 i) (hc1 : cond0_1 i) (x0 : Vec F S16x512x256 .f32) (x1 : Vec F S4x512x256 .f32) (xt0 : TbBuf0 (F := F) c tbM0_0) (xo5 : Vec F S16x512 .f32) (xo6 : Vec F S16x512 .i32) (xs0 : Vec F S16x256x512 .f32) (xs1 : Vec F S16x512 .f32)

set_option maxHeartbeats 4000000 in
/-- The stores to the distance block, as found. -/
theorem rawD_C :
    (runC c i arg3 harg3 arg4 harg4 arg5 harg5 arg6 harg6 arg7 harg7 arg8 harg8 arg9 harg9 arg10 harg10 arg11 harg11 arg12 harg12 hc0 hc1 x0 x1 xt0 xo5 xo6 xs0 xs1).1 = listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16 := by
  sl_kernel_rfl

set_option maxHeartbeats 4000000 in
/-- The stores to the class block, as found. -/
theorem rawC_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.1 = listC (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fun q => View.readAt (Elt F) arg9.view (rowBox q).toLoadRect (harg9.unread xo6)) (clsW c i xt0) (fstW i) arg8.view arg9.view 16 := by
  sl_kernel_rfl

set_option maxHeartbeats 4000000 in
/-- The stores to the distance block. -/
theorem listD_C :
    (runC c i arg3 harg3 arg4 harg4 arg5 harg5 arg6 harg6 arg7 harg7 arg8 harg8 arg9 harg9 arg10 harg10 arg11 harg11 arg12 harg12 hc0 hc1 x0 x1 xt0 xo5 xo6 xs0 xs1).1 = storesD xs0 (k0_pay9 x1) xs1 xo5 (fstW i) arg8.view 16 := by
  have hx : (fun q k => View.readAt (Elt F) arg10.view (xBox q k).toLoadRect (harg10.unread xs0)) = fun q k => View.ld xs0 (xBox q k) := by
    funext q k
    exact readAt_whole harg10 xs0 _
  have hn : (fun q => View.readAt (Elt F) arg11.view (rowBox q).toLoadRect (harg11.unread xs1)) = fun q => View.ld xs1 (rowBox q) := by
    funext q
    exact readAt_whole harg11 xs1 _
  have ht : (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) = fun u k => View.ld (Val := Elt F) (k0_pay9 x1) (tBox u k) := by
    funext u k
    rw [readCov_one _ _ _ zero3, readAt_full harg4 x1 _ zero3]
  have hd : (fun q => View.readAt (Elt F) arg8.view (rowBox q).toLoadRect (harg8.unread xo5)) = fun q => View.ld xo5 (rowBox q) := by
    funext q
    exact readAt_whole harg8 xo5 _
  rw [rawD_C, hx, hn, ht, hd]

set_option maxHeartbeats 4000000 in
/-- The stores to the class block. -/
theorem listC_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.1 = storesC xs0 (k0_pay9 x1) xs1 xo5 xo6 (clsW c i xt0) (fstW i) arg8.view arg9.view 16 := by
  have hx : (fun q k => View.readAt (Elt F) arg10.view (xBox q k).toLoadRect (harg10.unread xs0)) = fun q k => View.ld xs0 (xBox q k) := by
    funext q k
    exact readAt_whole harg10 xs0 _
  have hn : (fun q => View.readAt (Elt F) arg11.view (rowBox q).toLoadRect (harg11.unread xs1)) = fun q => View.ld xs1 (rowBox q) := by
    funext q
    exact readAt_whole harg11 xs1 _
  have ht : (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) = fun u k => View.ld (Val := Elt F) (k0_pay9 x1) (tBox u k) := by
    funext u k
    rw [readCov_one _ _ _ zero3, readAt_full harg4 x1 _ zero3]
  have hd : (fun q => View.readAt (Elt F) arg8.view (rowBox q).toLoadRect (harg8.unread xo5)) = fun q => View.ld xo5 (rowBox q) := by
    funext q
    exact readAt_whole harg8 xo5 _
  have hc : (fun q => View.readAt (Elt F) arg9.view (rowBox q).toLoadRect (harg9.unread xo6)) = fun q => View.ld xo6 (rowBox q) := by
    funext q
    exact readAt_whole harg9 xo6 _
  rw [rawC_C, hx, hn, ht, hd, hc]

set_option maxHeartbeats 4000000 in
/-- The store to the template scratch. -/
theorem rawT_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.1 = [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] := by
  sl_kernel_rfl

set_option maxHeartbeats 4000000 in
/-- The store to mask block 0, as found. -/
theorem rawM0_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.1 = [⟨(Rect.unit ![0, 0] S16x512.size inb_S16x512_S16x512_0_0), k0_pay3 (arg8.view.readCov (listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16) (Rect.unit ![0, 0] S16x512.size inb_S16x512_S16x512_0_0).toLoadRect)⟩] := by
  sl_kernel_rfl

set_option maxHeartbeats 4000000 in
/-- The store to mask block 0. -/
theorem listM0_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.1 = [⟨(Rect.unit ![0, 0] S16x512.size inb_S16x512_S16x512_0_0), k0_pay3 (outD xs0 (k0_pay9 x1) xs1 xo5 (fstW i))⟩] := by
  have hd : arg8.view.readCov (runC c i arg3 harg3 arg4 harg4 arg5 harg5 arg6 harg6 arg7 harg7 arg8 harg8 arg9 harg9 arg10 harg10 arg11 harg11 arg12 harg12 hc0 hc1 x0 x1 xt0 xo5 xo6 xs0 xs1).1 (Rect.unit ![0, 0] S16x512.size inb_S16x512_S16x512_0_0).toLoadRect = outD xs0 (k0_pay9 x1) xs1 xo5 (fstW i) := by
    rw [listD_C, View.readCov_eq_canon', canon_D]
    exact View.ld_unit_zero zero2 _ _
  have e : (runC c i arg3 harg3 arg4 harg4 arg5 harg5 arg6 harg6 arg7 harg7 arg8 harg8 arg9 harg9 arg10 harg10 arg11 harg11 arg12 harg12 hc0 hc1 x0 x1 xt0 xo5 xo6 xs0 xs1).1 = listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16 := by apply rawD_C
  rw [rawM0_C, ← e, hd]

set_option maxHeartbeats 4000000 in
/-- The store to mask block 1, as found. -/
theorem rawM1_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.2.1 = [⟨(Rect.unit ![0, 0] S16x512.size inb_S16x512_S16x512_0_0), k0_pay4 (arg8.view.readCov (listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16) (Rect.unit ![0, 0] S16x512.size inb_S16x512_S16x512_0_0).toLoadRect)⟩] := by
  sl_kernel_rfl

set_option maxHeartbeats 4000000 in
/-- The store to mask block 1. -/
theorem listM1_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.2.1 = [⟨(Rect.unit ![0, 0] S16x512.size inb_S16x512_S16x512_0_0), k0_pay4 (outD xs0 (k0_pay9 x1) xs1 xo5 (fstW i))⟩] := by
  have hd : arg8.view.readCov (runC c i arg3 harg3 arg4 harg4 arg5 harg5 arg6 harg6 arg7 harg7 arg8 harg8 arg9 harg9 arg10 harg10 arg11 harg11 arg12 harg12 hc0 hc1 x0 x1 xt0 xo5 xo6 xs0 xs1).1 (Rect.unit ![0, 0] S16x512.size inb_S16x512_S16x512_0_0).toLoadRect = outD xs0 (k0_pay9 x1) xs1 xo5 (fstW i) := by
    rw [listD_C, View.readCov_eq_canon', canon_D]
    exact View.ld_unit_zero zero2 _ _
  have e : (runC c i arg3 harg3 arg4 harg4 arg5 harg5 arg6 harg6 arg7 harg7 arg8 harg8 arg9 harg9 arg10 harg10 arg11 harg11 arg12 harg12 hc0 hc1 x0 x1 xt0 xo5 xo6 xs0 xs1).1 = listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16 := by apply rawD_C
  rw [rawM1_C, ← e, hd]

set_option maxHeartbeats 4000000 in
/-- The store to mask block 2, as found. -/
theorem rawM2_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.2.2.val = [⟨(Rect.unit ![0, 0] S16x512.size inb_S16x512_S16x512_0_0), k0_pay5 (arg8.view.readCov (listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16) (Rect.unit ![0, 0] S16x512.size inb_S16x512_S16x512_0_0).toLoadRect)⟩] := by
  sl_kernel_rfl

set_option maxHeartbeats 4000000 in
/-- The store to mask block 2. -/
theorem listM2_C :
    (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.2.2.val = [⟨(Rect.unit ![0, 0] S16x512.size inb_S16x512_S16x512_0_0), k0_pay5 (outD xs0 (k0_pay9 x1) xs1 xo5 (fstW i))⟩] := by
  have hd : arg8.view.readCov (runC c i arg3 harg3 arg4 harg4 arg5 harg5 arg6 harg6 arg7 harg7 arg8 harg8 arg9 harg9 arg10 harg10 arg11 harg11 arg12 harg12 hc0 hc1 x0 x1 xt0 xo5 xo6 xs0 xs1).1 (Rect.unit ![0, 0] S16x512.size inb_S16x512_S16x512_0_0).toLoadRect = outD xs0 (k0_pay9 x1) xs1 xo5 (fstW i) := by
    rw [listD_C, View.readCov_eq_canon', canon_D]
    exact View.ld_unit_zero zero2 _ _
  have e : (runC c i arg3 harg3 arg4 harg4 arg5 harg5 arg6 harg6 arg7 harg7 arg8 harg8 arg9 harg9 arg10 harg10 arg11 harg11 arg12 harg12 hc0 hc1 x0 x1 xt0 xo5 xo6 xs0 xs1).1 = listD (fun q k => View.readAt (Elt F) arg10.view (xBox q k).toLoadRect (harg10.unread xs0)) (fun u k => arg12.view.readCov [⟨Rect.unit ![0, 0, 0] S4x256x512.size inb_S4x256x512_S4x256x512_0_0_0, k0_pay9 (View.readAt (Elt F) arg4.view (Rect.unit ![0, 0, 0] S4x512x256.size inb_S4x512x256_S4x512x256_0_0_0).toLoadRect (harg4.unread x1))⟩] (tBox u k).toLoadRect) (fun q => View.readAt (Elt F) arg11.view (rowBox q).toLoadRect (harg11.unread xs1)) (fun q => View.readAt (Elt F) arg8.view (rowBox q).toLoadRect (harg8.unread xo5)) (fstW i) arg8.view 16 := by apply rawD_C
  rw [rawM2_C, ← e, hd]

set_option maxHeartbeats 4000000 in
/-- The distance block after the body. -/
theorem leftD_C (f : arg8.view.ty.Contents (Elt F)) :
    arg8.view.read (Elt F) (arg8.view.writes (Elt F) f (runC c i arg3 harg3 arg4 harg4 arg5 harg5 arg6 harg6 arg7 harg7 arg8 harg8 arg9 harg9 arg10 harg10 arg11 harg11 arg12 harg12 hc0 hc1 x0 x1 xt0 xo5 xo6 xs0 xs1).1) = outD xs0 (k0_pay9 x1) xs1 xo5 (fstW i) := by
  refine readM_of _ _ _ _ ?_ ?_
  · rw [listD_C]; exact cover_D _ _ _ _ _ _
  · rw [listD_C]; exact canon_D _ _ _ _ _ _

set_option maxHeartbeats 4000000 in
/-- The class block after the body. -/
theorem leftC_C (f : arg9.view.ty.Contents (Elt F)) :
    arg9.view.read (Elt F) (arg9.view.writes (Elt F) f (runC c i arg3 harg3 arg4 harg4 arg5 harg5 arg6 harg6 arg7 harg7 arg8 harg8 arg9 harg9 arg10 harg10 arg11 harg11 arg12 harg12 hc0 hc1 x0 x1 xt0 xo5 xo6 xs0 xs1).2.1) = outC xs0 (k0_pay9 x1) xs1 xo5 xo6 (clsW c i xt0) (fstW i) := by
  refine readM_of _ _ _ _ ?_ ?_
  · rw [listC_C]; exact cover_C _ _ _ _ _ _ _ _ _
  · rw [listC_C]; exact canon_C _ _ _ _ _ _ _ _ _

set_option maxHeartbeats 4000000 in
/-- Mask block 0 after the body. -/
theorem leftM0_C (f : arg5.view.ty.Contents (Elt F)) :
    arg5.view.read (Elt F) (arg5.view.writes (Elt F) f (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.1) = k0_pay3 (outD xs0 (k0_pay9 x1) xs1 xo5 (fstW i)) := by
  refine readM_of _ _ _ _ ?_ ?_
  · rw [listM0_C]; exact cover_one _ zero2 _
  · rw [listM0_C]; exact View.canon_cons_unit_zero zero2 _ _ _

set_option maxHeartbeats 4000000 in
/-- Mask block 1 after the body. -/
theorem leftM1_C (f : arg6.view.ty.Contents (Elt F)) :
    arg6.view.read (Elt F) (arg6.view.writes (Elt F) f (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.2.1) = k0_pay4 (outD xs0 (k0_pay9 x1) xs1 xo5 (fstW i)) := by
  refine readM_of _ _ _ _ ?_ ?_
  · rw [listM1_C]; exact cover_one _ zero2 _
  · rw [listM1_C]; exact View.canon_cons_unit_zero zero2 _ _ _

set_option maxHeartbeats 4000000 in
/-- Mask block 2 after the body. -/
theorem leftM2_C (f : arg7.view.ty.Contents (Elt F)) :
    arg7.view.read (Elt F) (arg7.view.writes (Elt F) f (runC c i arg3 harg3 arg4 harg4 arg5 harg5 arg6 harg6 arg7 harg7 arg8 harg8 arg9 harg9 arg10 harg10 arg11 harg11 arg12 harg12 hc0 hc1 x0 x1 xt0 xo5 xo6 xs0 xs1).2.2.2.2.2.val) = k0_pay5 (outD xs0 (k0_pay9 x1) xs1 xo5 (fstW i)) := by
  refine readM_of _ _ _ _ ?_ ?_
  · rw [listM2_C]; exact cover_one _ zero2 _
  · rw [listM2_C]; exact View.canon_cons_unit_zero zero2 _ _ _

end Cert.KernelIdeal.Near
-- ==== Proof.Point.lean ====
/- The pipeline's proof data with the outputs named, and the run of the whole kernel. -/
module

public import proofs.«01_k».proof.Proof.FoundA
public import proofs.«01_k».proof.Proof.FoundB
public import proofs.«01_k».proof.Proof.FoundC
public import Idealize.ShloMosaic.Lib.Claim

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## At the first template group the blocks before do not matter -/

/-- The first-group flag is set at the first group. -/
theorem fstW_eq (i : grid0.Coords) (h : cond0_0 i) : fstW i = 1#1 := by
  have hb : ∀ b : BitVec 1, Scalar.cmpi .ne ((Scalar.extui b : BitVec 32)) 0#32 = 1#1 → b = 1#1 := by decide
  exact hb _ h

/-- The first-group flag is clear past the first group. -/
theorem fstW_ne (i : grid0.Coords) (h : ¬cond0_0 i) : fstW i = 0#1 := by
  have hb : ∀ b : BitVec 1, ¬Scalar.cmpi .ne ((Scalar.extui b : BitVec 32)) 0#32 = 1#1 → b = 0#1 := by decide
  exact hb _ h

section
variable (X : Fin 4 → Fin 32 → Vec F S4x8x512 .f32) (T : Fin 4 → Fin 32 → Vec F S1x8x512 .f32)
  (XN : Fin 4 → Vec F S4x512 .f32) (CW : Fin 4 → Elt F .i32)

/-- At the first template of all every entry improves. -/
theorem better_first (q : Fin 4) (prev : Vec F S4x512 .f32) : betterQ X T XN 1#1 q 0 prev = fun _ => 1#1 := by
  funext x
  show (cmpf .olt (distQ X T XN q 0) (shapeCast S4x512 prev shapeCasts_S4x512_S4x512) x) ||| 1#1 = 1#1
  generalize cmpf .olt (distQ X T XN q 0) (shapeCast S4x512 prev shapeCasts_S4x512_S4x512) x = b
  revert b
  decide

/-- So the distance kept is the template's. -/
theorem stepD_first (q : Fin 4) (prev : Vec F S4x512 .f32) : stepD X T XN 1#1 q 0 prev = distQ X T XN q 0 := by
  unfold stepD
  rw [better_first]
  rfl

/-- And the class kept is the template's. -/
theorem stepC_first (q : Fin 4) (prev : Vec F S4x512 .f32) (prevC : Vec F S4x512 .i32) :
    stepC X T XN CW 1#1 q 0 prev prevC = broadcast S4x512 (CW 0) := by
  unfold stepC
  rw [better_first]
  rfl

/-- The distances kept do not depend on the block before. -/
theorem keepD_first (PD PD' : Fin 4 → Vec F S4x512 .f32) (q : Fin 4) :
    ∀ n, keepD X T XN PD 1#1 q n = keepD X T XN PD' 1#1 q n
  | 0 => by show stepD X T XN 1#1 q 0 _ = stepD X T XN 1#1 q 0 _; rw [stepD_first, stepD_first]
  | n + 1 => by
    show stepD X T XN 1#1 q _ (keepD X T XN PD 1#1 q n) = stepD X T XN 1#1 q _ (keepD X T XN PD' 1#1 q n)
    rw [keepD_first PD PD' q n]

/-- The classes kept do not depend on the blocks before. -/
theorem keepC_first (PD PD' : Fin 4 → Vec F S4x512 .f32) (PC PC' : Fin 4 → Vec F S4x512 .i32) (q : Fin 4) :
    ∀ n, keepC X T XN PD PC CW 1#1 q n = keepC X T XN PD' PC' CW 1#1 q n
  | 0 => by show stepC X T XN CW 1#1 q 0 _ _ = stepC X T XN CW 1#1 q 0 _ _; rw [stepC_first, stepC_first]
  | n + 1 => by
    show stepC X T XN CW 1#1 q _ (keepD X T XN PD 1#1 q n) (keepC X T XN PD PC CW 1#1 q n)
      = stepC X T XN CW 1#1 q _ (keepD X T XN PD' 1#1 q n) (keepC X T XN PD' PC' CW 1#1 q n)
    rw [keepD_first X T XN PD PD' q n, keepC_first PD PD' PC PC' q n]

end

/-- The distance block does not depend on the block before. -/
theorem outD_first (XS : Vec F S16x256x512 .f32) (TS : Vec F S4x256x512 .f32) (XNV D D' : Vec F S16x512 .f32) :
    outD XS TS XNV D 1#1 = outD XS TS XNV D' 1#1 := by
  funext y
  unfold outD
  rw [keepD_first]

/-- The class block does not depend on the blocks before. -/
theorem outC_first (XS : Vec F S16x256x512 .f32) (TS : Vec F S4x256x512 .f32) (XNV D D' : Vec F S16x512 .f32)
    (C C' : Vec F S16x512 .i32) (CW : Fin 4 → Elt F .i32) :
    outC XS TS XNV D C CW 1#1 = outC XS TS XNV D' C' CW 1#1 := by
  funext y
  unfold outC
  rw [keepC_first]

/-! ## What the buffers hold, point by point -/

/-- The running distances and classes, the transposed queries and their squared norms. -/
structure St (F : FTy → Type) [FloatOps F] where
  D : Vec F S16x512 .f32
  C : Vec F S16x512 .i32
  X : Vec F S16x256x512 .f32
  N : Vec F S16x512 .f32

variable (m : (ℓ : Loc nD τ sig) → Buf (Elt F) ℓ) (ρ : Dev nD → PrngReg)

/-- A point's contents, from the queries' scratch and the blocks before. -/
def stOf (hO : Ok m) (c : Dev nD) (t : Fin (cfgM m hO).N) (X : Vec F S16x256x512 .f32) (N : Vec F S16x512 .f32)
    (D : Vec F S16x512 .f32) (C : Vec F S16x512 .i32) : St F where
  D := outD X (k0_pay9 (iblk m hO c 1 t)) N D (fstW (grid0.coords t))
  C := outC X (k0_pay9 (iblk m hO c 1 t)) N D C (clsW c (grid0.coords t) (tbl m 0)) (fstW (grid0.coords t))
  X := X
  N := N

/-- The contents after a block's first point: over no particular blocks before. -/
def stFirst (hO : Ok m) (c : Dev nD) (t : Fin (cfgM m hO).N) : St F :=
  stOf m hO c t (k0_pay7 (iblk m hO c 0 t)) (k0_pay8 (iblk m hO c 0 t))
    (fun _ => Scalar.ofBits .f32 0x00000000#32) (fun _ => 0#32)

/-- The contents after point `n`. -/
def stAt (hO : Ok m) (c : Dev nD) : (n : ℕ) → n < (cfgM m hO).N → St F
  | 0, h => stFirst m hO c ⟨0, h⟩
  | n + 1, h =>
    if (n + 1) % 16 = 0 then stFirst m hO c ⟨n + 1, h⟩
    else stOf m hO c ⟨n + 1, h⟩ (stAt hO c n (Nat.lt_of_succ_lt h)).X (stAt hO c n (Nat.lt_of_succ_lt h)).N
      (stAt hO c n (Nat.lt_of_succ_lt h)).D (stAt hO c n (Nat.lt_of_succ_lt h)).C

/-- The state after a first group. -/
theorem stAt_first (hO : Ok m) (c : Dev nD) (t : Fin (cfgM m hO).N) (h : t.val % 16 = 0) :
    stAt m hO c t.val t.isLt = stFirst m hO c t := by
  obtain ⟨n, hn⟩ := t
  cases n with
  | zero => rfl
  | succ n => exact if_pos h

/-- The state after a further group. -/
theorem stAt_next (hO : Ok m) (c : Dev nD) (t : Fin (cfgM m hO).N) (h : ¬t.val % 16 = 0)
    (h' : t.val - 1 < (cfgM m hO).N) :
    stAt m hO c t.val t.isLt = stOf m hO c t (stAt m hO c (t.val - 1) h').X (stAt m hO c (t.val - 1) h').N
      (stAt m hO c (t.val - 1) h').D (stAt m hO c (t.val - 1) h').C := by
  obtain ⟨n, hn⟩ := t
  cases n with
  | zero => exact absurd (Nat.zero_mod 16) h
  | succ n => exact if_neg h

/-- The invariant before position `n`: after the first point the queries' scratch is at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (stAt m hO c n hn).X ∗ owns (c : Thread nD τ) scM0_1 fullShare (stAt m hO c n hn).N ∗ (∃ d, owns (c : Thread nD τ) scM0_2 fullShare d)) ∗ (∃ r, prngReg c r)) ∗ Pipeline.ΦT pre0 (tbl m) c)

/-- The scratch before the run holds anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- The scratch after a grid point holds its state. -/
theorem PhiS_succ (hO : Ok m) (c : Dev nD) (n : ℕ) (hn : n < (cfgM m hO).N) :
    PhiS m hO c (n + 1) hn = iprop(iprop(iprop(owns (c : Thread nD τ) scM0_0 fullShare (stAt m hO c n hn).X ∗ owns (c : Thread nD τ) scM0_1 fullShare (stAt m hO c n hn).N ∗ (∃ d, owns (c : Thread nD τ) scM0_2 fullShare d)) ∗ (∃ r, prngReg c r)) ∗ Pipeline.ΦT pre0 (tbl m) c) := rfl

/-- The scratch past the start holds a state. -/
theorem PhiS_pos (hO : Ok m) (c : Dev nD) (n : ℕ) (h : n ≤ (cfgM m hO).N) (hz : n ≠ 0) :
    PhiS m hO c n h = iprop(iprop(iprop(owns (c : Thread nD τ) scM0_0 fullShare (stAt m hO c (n - 1) (by omega)).X ∗ owns (c : Thread nD τ) scM0_1 fullShare (stAt m hO c (n - 1) (by omega)).N ∗ (∃ d, owns (c : Thread nD τ) scM0_2 fullShare d)) ∗ (∃ r, prngReg c r)) ∗ Pipeline.ΦT pre0 (tbl m) c) := by
  cases n with
  | zero => exact absurd rfl hz
  | succ n => rfl

/-- Whatever the position, the invariant holds the scratch at something. -/
theorem PhiS_any (hO : Ok m) (c : Dev nD) (n : ℕ) (h : n ≤ (cfgM m hO).N) :
    PhiS m hO c n h ⊢ iprop(iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) ∗ Pipeline.ΦT pre0 (tbl m) c) := by
  by_cases hz : n = 0
  · rw [PhiS_zero m hO c n h hz, PhiA0_eq]
    try exact Idealize.SL.BI.Entails.refl _
  · rw [PhiS_pos m hO c n h hz]
    iintro ⟨⟨⟨HS0, HS1, HS2⟩, Hg⟩, HT⟩
    isplitl [HS0 HS1 HS2 Hg]
    · isplitl [HS0 HS1 HS2]
      · isplitl [HS0]
        · iexists _; iexact HS0
        isplitl [HS1]
        · iexists _; iexact HS1
        iexact HS2
      iexact Hg
    iexact HT

/-- The proof data: inputs at their blocks, outputs at the contents named above; full shares, nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay3 (stAt m hO c t.val t.isLt).D
    | ⟨3, _⟩ => k0_pay4 (stAt m hO c t.val t.isLt).D
    | ⟨4, _⟩ => k0_pay5 (stAt m hO c t.val t.isLt).D
    | ⟨5, _⟩ => (stAt m hO c t.val t.isLt).D
    | ⟨6, _⟩ => (stAt m hO c t.val t.isLt).C
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = k0_pay3 (stAt m hO c t.val t.isLt).D := by dsimp only [dats]; try rfl
theorem after0_3 (hO : Ok m) (c : Dev nD) (t : Fin (cfgM m hO).N) : (dats m hO 0 c).after 3 t = k0_pay4 (stAt m hO c t.val t.isLt).D := by dsimp only [dats]; try rfl
theorem after0_4 (hO : Ok m) (c : Dev nD) (t : Fin (cfgM m hO).N) : (dats m hO 0 c).after 4 t = k0_pay5 (stAt m hO c t.val t.isLt).D := by dsimp only [dats]; try rfl
theorem after0_5 (hO : Ok m) (c : Dev nD) (t : Fin (cfgM m hO).N) : (dats m hO 0 c).after 5 t = (stAt m hO c t.val t.isLt).D := by dsimp only [dats]; try rfl
theorem after0_6 (hO : Ok m) (c : Dev nD) (t : Fin (cfgM m hO).N) : (dats m hO 0 c).after 6 t = (stAt m hO c t.val t.isLt).C := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Away from a block's first point output 5's buffer holds what the point before left. -/
theorem before0_5 (hO : Ok m) (c : Dev nD) (t : Fin (cfgM m hO).N) (h0 : ¬t.val % 16 = 0) (d) :
    (dats m hO 0 c).before 5 t d = (stAt m hO c (t.val - 1) (Nat.lt_of_le_of_lt (Nat.sub_le _ _) t.isLt)).D := by
  have hN : t.val < 128 := lt_of_lt_of_eq t.isLt (show (cfgM m hO).N = 128 from N_0)
  rw [Dat.before_out_kept _ 5 rfl t (by omega) (Bool.eq_false_iff.mpr fun h => by have := (flush0_5 (adm m hO) _).mp h; dsimp only at this; omega)
    (fun _ => rfl) (fun _ _ => rfl)]
  dsimp only [dats]
  try rfl
/-- Away from a block's first point output 6's buffer holds what the point before left. -/
theorem before0_6 (hO : Ok m) (c : Dev nD) (t : Fin (cfgM m hO).N) (h0 : ¬t.val % 16 = 0) (d) :
    (dats m hO 0 c).before 6 t d = (stAt m hO c (t.val - 1) (Nat.lt_of_le_of_lt (Nat.sub_le _ _) t.isLt)).C := by
  have hN : t.val < 128 := lt_of_lt_of_eq t.isLt (show (cfgM m hO).N = 128 from N_0)
  rw [Dat.before_out_kept _ 6 rfl t (by omega) (Bool.eq_false_iff.mpr fun h => by have := (flush0_6 (adm m hO) _).mp h; dsimp only at this; omega)
    (fun _ => rfl) (fun _ _ => rfl)]
  dsimp only [dats]
  try rfl

/-- What the body is called with, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

theorem leaves0_0 (hO : Ok m) (c : Dev nD) (t : Fin (cfgM m hO).N) :
    (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem leaves0_1 (hO : Ok m) (c : Dev nD) (t : Fin (cfgM m hO).N) :
    (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem leaves0_2 (hO : Ok m) (c : Dev nD) (t : Fin (cfgM m hO).N) (h : cond0_1 (grid0.coords t)) :
    (dats m hO 0 c).leavesExact 2 t = owns (c : Thread nD τ) (ms0_2 m hO t) fullShare (k0_pay3 (stAt m hO c t.val t.isLt).D) := by
  rw [show (dats m hO 0 c).leavesExact 2 t = owns (c : Thread nD τ) (ms0_2 m hO t) fullShare ((dats m hO 0 c).after 2 t) from by
    unfold Dat.leavesExact; rw [liveAt0_2 m hO t h]; try rfl, after0_2]
theorem leaves0_3 (hO : Ok m) (c : Dev nD) (t : Fin (cfgM m hO).N) (h : cond0_1 (grid0.coords t)) :
    (dats m hO 0 c).leavesExact 3 t = owns (c : Thread nD τ) (ms0_3 m hO t) fullShare (k0_pay4 (stAt m hO c t.val t.isLt).D) := by
  rw [show (dats m hO 0 c).leavesExact 3 t = owns (c : Thread nD τ) (ms0_3 m hO t) fullShare ((dats m hO 0 c).after 3 t) from by
    unfold Dat.leavesExact; rw [liveAt0_3 m hO t h]; try rfl, after0_3]
theorem leaves0_4 (hO : Ok m) (c : Dev nD) (t : Fin (cfgM m hO).N) (h : cond0_1 (grid0.coords t)) :
    (dats m hO 0 c).leavesExact 4 t = owns (c : Thread nD τ) (ms0_4 m hO t) fullShare (k0_pay5 (stAt m hO c t.val t.isLt).D) := by
  rw [show (dats m hO 0 c).leavesExact 4 t = owns (c : Thread nD τ) (ms0_4 m hO t) fullShare ((dats m hO 0 c).after 4 t) from by
    unfold Dat.leavesExact; rw [liveAt0_4 m hO t h]; try rfl, after0_4]
theorem leaves0_5 (hO : Ok m) (c : Dev nD) (t : Fin (cfgM m hO).N) :
    (dats m hO 0 c).leavesExact 5 t = owns (c : Thread nD τ) (ms0_5 m hO t) fullShare ((stAt m hO c t.val t.isLt).D) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem leaves0_6 (hO : Ok m) (c : Dev nD) (t : Fin (cfgM m hO).N) :
    (dats m hO 0 c).leavesExact 6 t = owns (c : Thread nD τ) (ms0_6 m hO t) fullShare ((stAt m hO c t.val t.isLt).C) := by
  rw [show (dats m hO 0 c).leavesExact 6 t = owns (c : Thread nD τ) (ms0_6 m hO t) fullShare ((dats m hO 0 c).after 6 t) from by
    unfold Dat.leavesExact; rw [liveAt0_6 m hO t]; try rfl, after0_6]

set_option maxHeartbeats 4000000 in
/-- The body at a point of case A. -/
theorem sound_A (hO : Ok m) (c : Dev nD) (t : Fin (cfgM m hO).N) (h0 : t.val % 16 = 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 128 := lt_of_lt_of_eq t.isLt (show (cfgM m hO).N = 128 from N_0)
  have hk : ¬cond0_1 (grid0.coords t) := fun h => by have := (hcond0_1 t).mp h; omega
  rw [leaves0_0, leaves0_1, leaves0_5, leaves0_6, Dat.leavesExact_idle (dats m hO 0 c) 2 t (idleAt0_2 m hO t hk) (noFlush0_2 m hO t hk), Dat.leavesExact_idle (dats m hO 0 c) 3 t (idleAt0_3 m hO t hk) (noFlush0_3 m hO t hk), Dat.leavesExact_idle (dats m hO 0 c) 4 t (idleAt0_4 m hO t hk) (noFlush0_4 m hO t hk)]
  rw [PhiS_castSucc m hO c t, stAt_first m hO c t h0]
  refine (sep_mono (PhiS_any m hO c _ _) .rfl).trans ?_
  rw [PhiT0_eq]
  have hf : fstW (grid0.coords t) = 1#1 := fstW_eq _ ((hcond0_0 t).mpr h0)
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((runA c (grid0.coords t) _ _ _ _ _ _ _ _ _ _ _ _ _ _ _ _ _ _ _ _ ((hcond0_0 t).mpr h0) (fun h => by have := (hcond0_1 t).mp h; omega) (iblk m hO c 0 t) (iblk m hO c 1 t) (tbl m 0) _ _).2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HT0]; · iexact HT0
  iintro ⟨H0, H1, H2, H3, H4, ⟨%e5, H5⟩, ⟨%e6, H6⟩, ⟨%es0, HS0⟩, ⟨%es1, HS1⟩, ⟨%fT2, HS2⟩, HT0⟩
  isplitl [HS0 HS1 HS2 Hg HT0]
  · isplitl [HS0 HS1 HS2 Hg]
    · isplitl [HS0 HS1 HS2]
      · isplitl [HS0]
        · unfold owns; iexists _; isplitr
          swap; · iexact HS0
          ipureintro
          exact leftS0_A ..
        isplitl [HS1]
        · unfold owns; iexists _; isplitr
          swap; · iexact HS1
          ipureintro
          exact leftS1_A ..
        iexists _; unfold owns; iexists _; isplitr
        swap; · iexact HS2
        ipureintro; rfl
      iexact Hg
    iexact HT0
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]
  · unfold owns; iexists _; isplitr
    swap; · iexact H5
    ipureintro
    refine Eq.trans (leftD_A ..) ?_
    show outD _ _ _ _ (fstW _) = outD _ _ _ _ (fstW _); rw [hf]; exact outD_first _ _ _ _ _
  unfold owns; iexists _; isplitr
  swap; · iexact H6
  ipureintro
  refine Eq.trans (leftC_A ..) ?_
  show outC _ _ _ _ _ _ (fstW _) = outC _ _ _ _ _ _ (fstW _); rw [hf]; exact outC_first _ _ _ _ _ _ _ _

set_option maxHeartbeats 4000000 in
/-- The body at a point of case B. -/
theorem sound_B (hO : Ok m) (c : Dev nD) (t : Fin (cfgM m hO).N) (h0 : ¬t.val % 16 = 0) (h1 : ¬t.val % 16 = 15) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 128 := lt_of_lt_of_eq t.isLt (show (cfgM m hO).N = 128 from N_0)
  have hk : ¬cond0_1 (grid0.coords t) := fun h => by have := (hcond0_1 t).mp h; omega
  rw [leaves0_0, leaves0_1, leaves0_5, leaves0_6, Dat.leavesExact_idle (dats m hO 0 c) 2 t (idleAt0_2 m hO t hk) (noFlush0_2 m hO t hk), Dat.leavesExact_idle (dats m hO 0 c) 3 t (idleAt0_3 m hO t hk) (noFlush0_3 m hO t hk), Dat.leavesExact_idle (dats m hO 0 c) 4 t (idleAt0_4 m hO t hk) (noFlush0_4 m hO t hk)]
  have hp : t.val - 1 < (cfgM m hO).N := Nat.lt_of_le_of_lt (Nat.sub_le _ _) t.isLt
  rw [PhiS_castSucc m hO c t, PhiS_pos m hO c _ _ (by omega), PhiT0_eq, stAt_next m hO c t h0 hp]
  simp only [before0_5 m hO c t h0, before0_6 m hO c t h0]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((runB c (grid0.coords t) _ _ _ _ _ _ _ _ _ _ _ _ _ _ _ _ _ _ _ _ (fun h => h0 ((hcond0_0 t).mp h)) (fun h => h1 ((hcond0_1 t).mp h)) (iblk m hO c 0 t) (iblk m hO c 1 t) (tbl m 0) _ _ _ _).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HT0]; · iexact HT0
  iintro ⟨H0, H1, H2, H3, H4, ⟨%e5, H5⟩, ⟨%e6, H6⟩, HS0, HS1, ⟨%fT2, HS2⟩, HT0⟩
  isplitl [HS0 HS1 HS2 Hg HT0]
  · isplitl [HS0 HS1 HS2 Hg]
    · isplitl [HS0 HS1 HS2]
      · isplitl [HS0]
        · iexact HS0
        isplitl [HS1]
        · iexact HS1
        iexists _; unfold owns; iexists _; isplitr
        swap; · iexact HS2
        ipureintro; rfl
      iexact Hg
    iexact HT0
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]
  · unfold owns; iexists _; isplitr
    swap; · iexact H5
    ipureintro
    exact leftD_B ..
  unfold owns; iexists _; isplitr
  swap; · iexact H6
  ipureintro
  exact leftC_B ..

set_option maxHeartbeats 4000000 in
/-- The body at a point of case C. -/
theorem sound_C (hO : Ok m) (c : Dev nD) (t : Fin (cfgM m hO).N) (h0 : ¬t.val % 16 = 0) (h1 : t.val % 16 = 15) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 128 := lt_of_lt_of_eq t.isLt (show (cfgM m hO).N = 128 from N_0)
  have hk : cond0_1 (grid0.coords t) := (hcond0_1 t).mpr h1
  rw [leaves0_0, leaves0_1, leaves0_2 m hO c t hk, leaves0_3 m hO c t hk, leaves0_4 m hO c t hk, leaves0_5, leaves0_6]
  have hp : t.val - 1 < (cfgM m hO).N := Nat.lt_of_le_of_lt (Nat.sub_le _ _) t.isLt
  rw [PhiS_castSucc m hO c t, PhiS_pos m hO c _ _ (by omega), PhiT0_eq, stAt_next m hO c t h0 hp]
  simp only [before0_5 m hO c t h0, before0_6 m hO c t h0]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((runC c (grid0.coords t) _ _ _ _ _ _ _ _ _ _ _ _ _ _ _ _ _ _ _ _ (fun h => h0 ((hcond0_0 t).mp h)) ((hcond0_1 t).mpr h1) (iblk m hO c 0 t) (iblk m hO c 1 t) (tbl m 0) _ _ _ _).2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexact H6
  isplitl [HS0]; · iexact HS0
  isplitl [HS1]; · iexact HS1
  isplitl [HS2]; · iexact HS2
  isplitl [HT0]; · iexact HT0
  iintro ⟨H0, H1, ⟨%e2, H2⟩, ⟨%e3, H3⟩, ⟨%e4, H4⟩, ⟨%e5, H5⟩, ⟨%e6, H6⟩, HS0, HS1, ⟨%fT2, HS2⟩, HT0⟩
  isplitl [HS0 HS1 HS2 Hg HT0]
  · isplitl [HS0 HS1 HS2 Hg]
    · isplitl [HS0 HS1 HS2]
      · isplitl [HS0]
        · iexact HS0
        isplitl [HS1]
        · iexact HS1
        iexists _; unfold owns; iexists _; isplitr
        swap; · iexact HS2
        ipureintro; rfl
      iexact Hg
    iexact HT0
  isplitl [Ho]; · iexact Ho
  isplitl [H0]; · iexact H0
  isplitl [H1]; · iexact H1
  isplitl [H2]
  · unfold owns; iexists _; isplitr
    swap; · iexact H2
    ipureintro
    exact leftM0_C ..
  isplitl [H3]
  · unfold owns; iexists _; isplitr
    swap; · iexact H3
    ipureintro
    exact leftM1_C ..
  isplitl [H4]
  · unfold owns; iexists _; isplitr
    swap; · iexact H4
    ipureintro
    exact leftM2_C ..
  isplitl [H5]
  · unfold owns; iexists _; isplitr
    swap; · iexact H5
    ipureintro
    exact leftD_C ..
  unfold owns; iexists _; isplitr
  swap; · iexact H6
  ipureintro
  exact leftC_C ..

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 16 = 0
  · exact sound_A m hO c t h0
  · by_cases h1 : t.val % 16 = 15
    · exact sound_C m hO c t h0 h1
    · exact sound_B m hO c t h0 h1

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every grid point's body does what the proof data say. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The scratch is owned at the start. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexact HS2
  iexact Hg

/-- The scratch is given back at the end. -/
theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

set_option backward.isDefEq.respectTransparency.types false in
set_option maxHeartbeats 800000 in
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- The whole run: every buffer at the named contents. -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- The frame claim: arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.Near

end
-- ==== Proof.Copy.lean ====
/- The idealized kernel is the kernel's own text, so the two programs are equal at every reading of the floats, and the frame proved
   of the one is the frame of the other. -/
module

public import proofs.«01_k».proof.Defs
public import proofs.«01_k».proof.Proof.Gen.Kernel
public import proofs.«01_k».proof.Proof.Point

@[expose] public section

noncomputable section

namespace Cert.Near

open Idealize.ShloMosaic Idealize.SL.Sem

variable {F : FTy → Type} [FloatOps F]

set_option maxHeartbeats 4000000 in
/-- The two kernel bodies are one. -/
theorem body_copy : @Cert.Kernel.cc0__body F _ _ = @Cert.KernelIdeal.cc0__body F _ _ := rfl

set_option maxHeartbeats 4000000 in
/-- The two tables of bodies are one: there is one label, and its body is the same. -/
theorem bodies_copy : Cert.Kernel.defs₀ (F := F) = Cert.KernelIdeal.defs₀ (F := F) := by
  unfold Cert.Kernel.defs₀ Cert.KernelIdeal.defs₀
  refine congrArg Defs.onTc (funext fun k => ?_)
  obtain rfl : k = 0 := Subsingleton.elim _ _
  exact funext fun _ => by rw [← body_copy]; rfl

/-- The two programs call the same bodies. -/
theorem defs_copy : Cert.Kernel.defs (F := F) = Cert.KernelIdeal.defs (F := F) :=
  congrArg (Pipeline.defs (Cert.KernelIdeal.pcfgs (F := F))) bodies_copy

set_option maxHeartbeats 4000000 in
/-- The two host programs are one. -/
theorem main_copy : Cert.Kernel.main (F := F) = Cert.KernelIdeal.main (F := F) := rfl

/-- The kernel's frame, at the bit patterns. -/
theorem frame_copy : Cert.quiescent_Kernel := fun m g _ => by
  have h := Cert.KernelIdeal.Near.frame (F := Bits) m g trivial
  rw [← defs_copy, ← main_copy] at h
  exact h

end Cert.Near

end
-- ==== Proof.Elem.lean ====
/- The distances of one grid point at the extended reals, element by element. -/
module

public import proofs.«01_k».proof.Proof.Spec
public import Idealize.ShloMosaic.Lib.Pointwise

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.Sem

section
variable (X : Fin 4 → Fin 32 → Vec Ideal S4x8x512 .f32) (T : Fin 4 → Fin 32 → Vec Ideal S1x8x512 .f32)
  (XN : Fin 4 → Vec Ideal S4x512 .f32)

/-- The added products of the first `n` chunks, at one entry. -/
theorem accN_at (q u : Fin 4) (r : Fin 4) (s : Fin 8) (p : Fin 512) (n : ℕ) :
    accN X T q u n (ix3 r s p) = ∑ k ∈ Finset.range n, (X q (k32 k) (ix3 r s p) : EReal) * T u (k32 k) (ix3 0 s p) := by
  induction n with
  | zero =>
    show (broadcast S4x8x512 (Scalar.ofBits .f32 0x00000000#32) : FVec Ideal S4x8x512 .f32) (ix3 r s p) = _
    pointwise
    rfl
  | succ n ih =>
    rw [Finset.sum_range_succ, ← ih]
    show addf (accN X T q u n) _ (ix3 r s p) = _
    pointwise

/-- The added squares of the first `n` chunks, at one entry. -/
theorem sqN_at (u : Fin 4) (s : Fin 8) (p : Fin 512) (n : ℕ) :
    sqN T u n (ix2 s p) = ∑ k ∈ Finset.range n, (T u (k32 k) (ix3 0 s p) : EReal) * T u (k32 k) (ix3 0 s p) := by
  induction n with
  | zero =>
    show (broadcast S8x512 (Scalar.ofBits .f32 0x00000000#32) : FVec Ideal S8x512 .f32) (ix2 s p) = _
    pointwise
    rfl
  | succ n ih =>
    rw [Finset.sum_range_succ, ← ih]
    show addf (sqN T u n) _ (ix2 s p) = _
    pointwise

/-- The pattern of the kernel's factor. -/
theorem two_bits : Ideal.ofBits .f32 0x40000000#32 = ((2 : ℝ) : EReal) := by
  simp [Ideal.ofBits, Ideal.ieee, -EReal.coe_mul]
  norm_num

/-- A distance at one entry: the query's squared norm, the template's, and twice the product taken off. -/
theorem distQ_at (q u : Fin 4) (r : Fin 4) (p : Fin 512) :
    distQ X T XN q u (ix2 r p) = (XN q (ix2 r p) : EReal) + (∑ s : Fin 8, sqN T u 32 (ix2 s p))
      - ((2 : ℝ) : EReal) * ∑ s : Fin 8, accN X T q u 32 (ix3 r s p) := by
  unfold distQ
  pointwise
  rw [two_bits]
end

/-- The products and squares of eight lanes and thirty-two chunks are those of the channels. -/
theorem sum_chunks (f : Fin 256 → EReal) :
    ∑ s : Fin 8, ∑ k ∈ Finset.range 32, f ⟨8 * (k32 k).val + s.val, by have := (k32 k).isLt; have := s.isLt; omega⟩
      = ∑ d : Fin 256, f d := by
  rw [← Fintype.sum_equiv (finProdFinEquiv (m := 32) (n := 8)) (fun z => f (finProdFinEquiv z)) f (fun _ => rfl),
    Fintype.sum_prod_type, Finset.sum_comm]
  rw [← Fin.sum_univ_eq_sum_range (fun k => ∑ s : Fin 8, f ⟨8 * (k32 k).val + s.val, by have := (k32 k).isLt; have := s.isLt; omega⟩) 32]
  refine Finset.sum_congr rfl fun k _ => Finset.sum_congr rfl fun s _ => congrArg f (Fin.ext ?_)
  show 8 * (k.val % 32) + s.val = s.val + 8 * k.val
  rw [Nat.mod_eq_of_lt k.isLt, Nat.add_comm]

section
variable (x0 : Vec Ideal S16x512x256 .f32) (t0 : Vec Ideal S4x512x256 .f32)

/-- Template `u` of the group against row `a` of the block, at point `p`. -/
def dBlk (a : Fin 16) (u : Fin 4) (p : Fin 512) : EReal :=
  (∑ d : Fin 256, (x0 (ix3 a p d) : EReal) * x0 (ix3 a p d)) + (∑ d : Fin 256, (t0 (ix3 u p d) : EReal) * t0 (ix3 u p d))
    - ((2 : ℝ) : EReal) * ∑ d : Fin 256, (x0 (ix3 a p d) : EReal) * t0 (ix3 u p d)

/-- A chunk of the transposed frames at one entry. -/
theorem ld_x (q : Fin 4) (k : Fin 32) (r : Fin 4) (s : Fin 8) (p : Fin 512) :
    View.ld (Val := Elt Ideal) (k0_pay7 x0) (xBox q k) (ix3 r s p)
      = x0 (ix3 ⟨4 * q.val + r.val, by omega⟩ p ⟨8 * k.val + s.val, by omega⟩) := by
  unfold k0_pay7 k0_pay6
  pointwise

/-- A chunk of the transposed templates at one entry. -/
theorem ld_t (u : Fin 4) (k : Fin 32) (s : Fin 8) (p : Fin 512) :
    View.ld (Val := Elt Ideal) (k0_pay9 t0) (tBox u k) (ix3 0 s p) = t0 (ix3 u p ⟨8 * k.val + s.val, by omega⟩) := by
  unfold k0_pay9
  pointwise

/-- A group of the frames' norms at one entry. -/
theorem ld_n (q : Fin 4) (r : Fin 4) (p : Fin 512) :
    View.ld (Val := Elt Ideal) (k0_pay8 x0) (rowBox q) (ix2 r p)
      = ∑ d : Fin 256, (x0 (ix3 ⟨4 * q.val + r.val, by omega⟩ p d) : EReal) * x0 (ix3 ⟨4 * q.val + r.val, by omega⟩ p d) := by
  unfold k0_pay8 k0_pay6
  pointwise

/-- A distance at one entry, in the blocks read. -/
theorem dist_blk (q u : Fin 4) (r : Fin 4) (p : Fin 512) :
    distQ (fun q k => View.ld (Val := Elt Ideal) (k0_pay7 x0) (xBox q k)) (fun u k => View.ld (Val := Elt Ideal) (k0_pay9 t0) (tBox u k))
      (fun q => View.ld (Val := Elt Ideal) (k0_pay8 x0) (rowBox q)) q u (ix2 r p) = dBlk x0 t0 ⟨4 * q.val + r.val, by omega⟩ u p := by
  rw [distQ_at]
  simp only [accN_at, sqN_at, ld_x, ld_t, ld_n]
  unfold dBlk
  rw [sum_chunks (fun d => (t0 (ix3 u p d) : EReal) * t0 (ix3 u p d)),
    sum_chunks (fun d => (x0 (ix3 ⟨4 * q.val + r.val, by omega⟩ p d) : EReal) * t0 (ix3 u p d))]
end

end Cert.KernelIdeal.Near
-- ==== Proof.Best.lean ====
/- The first template nearest to a point, and the running choice the kernel keeps of it. -/
module

public import proofs.«01_k».proof.Proof.Point
public import proofs.«01_k».proof.Proof.Elem

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.Sem

/-- Among the first `M` distances the `k`-th is the least, and the first such. -/
def Best (e : ℕ → EReal) (M k : ℕ) : Prop := k < M ∧ (∀ n, n < M → e k ≤ e n) ∧ ∀ n, n < k → e k < e n

/-- Of one distance the first is the best. -/
theorem Best.one (e : ℕ → EReal) : Best e 1 0 :=
  ⟨Nat.zero_lt_one, fun n h => by rw [Nat.lt_one_iff.mp h], fun n h => absurd h (Nat.not_lt_zero n)⟩

/-- A strictly smaller next distance becomes the best. -/
theorem Best.take {e : ℕ → EReal} {M k : ℕ} (h : Best e M k) (hl : e M < e k) : Best e (M + 1) M :=
  ⟨Nat.lt_succ_self M, fun n hn => (Nat.lt_succ_iff_lt_or_eq.mp hn).elim (fun h' => (hl.trans_le (h.2.1 n h')).le) (fun h' => by rw [h']),
    fun n hn => hl.trans_le (h.2.1 n hn)⟩

/-- Otherwise the best stays. -/
theorem Best.stay {e : ℕ → EReal} {M k : ℕ} (h : Best e M k) (hl : ¬e M < e k) : Best e (M + 1) k :=
  ⟨Nat.lt_succ_of_lt h.1, fun n hn => (Nat.lt_succ_iff_lt_or_eq.mp hn).elim (fun h' => h.2.1 n h') (fun h' => by rw [h']; exact not_lt.mp hl),
    h.2.2⟩

/-- There is one best. -/
theorem Best.unique {e : ℕ → EReal} {M k k' : ℕ} (h : Best e M k) (h' : Best e M k') : k = k' := by
  rcases Nat.lt_trichotomy k k' with hl | he | hl
  · exact absurd (h'.2.2 k hl) (not_lt.mpr (h.2.1 k' h'.1))
  · exact he
  · exact absurd (h.2.2 k' hl) (not_lt.mpr (h'.2.1 k h.1))

/-- A distance and a class are those of the best of the first `M`. -/
def Held (e : ℕ → EReal) (cl : ℕ → BitVec 32) (M : ℕ) (d : EReal) (w : BitVec 32) : Prop :=
  ∃ k, Best e M k ∧ d = e k ∧ w = cl k

section
variable (X : Fin 4 → Fin 32 → Vec Ideal S4x8x512 .f32) (T : Fin 4 → Fin 32 → Vec Ideal S1x8x512 .f32)
  (XN : Fin 4 → Vec Ideal S4x512 .f32) (PD : Fin 4 → Vec Ideal S4x512 .f32) (PC : Fin 4 → Vec Ideal S4x512 .i32)
  (CW : Fin 4 → Elt Ideal .i32) (fst : BitVec 1) (e : ℕ → EReal) (cl : ℕ → BitVec 32)

/-- Past the first template of all, a template improves where its distance is strictly smaller. -/
theorem better_plain (q u : Fin 4) (prev : Vec Ideal S4x512 .f32) (h : fst = 0#1 ∨ u ≠ 0) (x : S4x512.Idx) :
    betterQ X T XN fst q u prev x = Ideal.cmp .olt (distQ X T XN q u x) (prev x) := by
  obtain ⟨n, hn⟩ := u
  cases n with
  | zero =>
    rcases h with h | h
    · subst h
      show ori (cmpf .olt (distQ X T XN q ⟨0, hn⟩) (shapeCast S4x512 prev shapeCasts_S4x512_S4x512)) (broadcast S4x512 0#1) x = _
      rw [shapeCast_self]
      show IntOp.ori (Ideal.cmp .olt (distQ X T XN q ⟨0, hn⟩ x) (prev x)) 0#1 = _
      generalize Ideal.cmp .olt (distQ X T XN q ⟨0, hn⟩ x) (prev x) = b
      revert b
      decide
    · exact absurd rfl h
  | succ n =>
    show cmpf .olt (distQ X T XN q ⟨n + 1, hn⟩) (shapeCast S4x512 prev shapeCasts_S4x512_S4x512) x = _
    rw [shapeCast_self]
    rfl

/-- One template's step keeps the smaller distance and its class. -/
theorem step_plain (q u : Fin 4) (prev : Vec Ideal S4x512 .f32) (prevC : Vec Ideal S4x512 .i32) (h : fst = 0#1 ∨ u ≠ 0)
    (x : S4x512.Idx) (M : ℕ) (hd : distQ X T XN q u x = e M) (hc : CW u = cl M) (hh : Held e cl M (prev x) (prevC x)) :
    Held e cl (M + 1) (stepD X T XN fst q u prev x) (stepC X T XN CW fst q u prev prevC x) := by
  obtain ⟨k, hk, h1, h2⟩ := hh
  have hs : stepD X T XN fst q u prev x = Scalar.select (betterQ X T XN fst q u prev x) (distQ X T XN q u x) (prev x) := by
    unfold stepD; rw [shapeCast_self]; rfl
  have hs' : stepC X T XN CW fst q u prev prevC x = Scalar.select (betterQ X T XN fst q u prev x) (CW u) (prevC x) := by
    unfold stepC; rw [shapeCast_self]; rfl
  rw [hs, hs', better_plain X T XN fst q u prev h x, hd, hc, h1, h2]
  by_cases hl : e M < e k
  · have hb : Ideal.cmp .olt (e M) (e k) = 1#1 := by simp [Ideal.cmp, hl]
    rw [hb]
    exact ⟨M, hk.take hl, rfl, rfl⟩
  · have hb : Ideal.cmp .olt (e M) (e k) = 0#1 := by simp [Ideal.cmp, hl]
    rw [hb]
    exact ⟨k, hk.stay hl, rfl, rfl⟩

/-- The running values after each template of the group. -/
theorem held_keep (q : Fin 4) (x : S4x512.Idx) (M : ℕ) (hd : ∀ u : Fin 4, distQ X T XN q u x = e (M + u.val))
    (hc : ∀ u : Fin 4, CW u = cl (M + u.val))
    (h0 : Held e cl (M + 1) (stepD X T XN fst q 0 (PD q) x) (stepC X T XN CW fst q 0 (PD q) (PC q) x)) :
    ∀ n, n < 4 → Held e cl (M + n + 1) (keepD X T XN PD fst q n x) (keepC X T XN PD PC CW fst q n x)
  | 0, _ => h0
  | n + 1, hn => by
    have hu : u4 (n + 1) = ⟨n + 1, hn⟩ := u4_of_lt (n + 1) hn
    refine step_plain X T XN CW fst e cl q (u4 (n + 1)) (keepD X T XN PD fst q n) (keepC X T XN PD PC CW fst q n) ?_ x (M + n + 1) ?_ ?_
      (held_keep q x M hd hc h0 n (by omega))
    · right
      rw [hu]
      intro h
      exact absurd (congrArg Fin.val h) (Nat.succ_ne_zero n)
    · rw [hd, hu]; rfl
    · rw [hc, hu]; rfl
end

section
variable (x0 : Vec Ideal S16x512x256 .f32) (t0 : Vec Ideal S4x512x256 .f32) (D : Vec Ideal S16x512 .f32) (C : Vec Ideal S16x512 .i32)
  (CW : Fin 4 → Elt Ideal .i32) (fst : BitVec 1) (e : ℕ → EReal) (cl : ℕ → BitVec 32)

/-- A distance of the whole block, read in its group of rows. -/
theorem dist_row (u : Fin 4) (y : S16x512.Idx) :
    distQ (fun q k => View.ld (Val := Elt Ideal) (k0_pay7 x0) (xBox q k)) (fun u k => View.ld (Val := Elt Ideal) (k0_pay9 t0) (tBox u k))
      (fun q => View.ld (Val := Elt Ideal) (k0_pay8 x0) (rowBox q)) (rowQ y) u (rowIn y) = dBlk x0 t0 (y 0) u (y 1) := by
  refine (dist_blk x0 t0 (rowQ y) u _ (y 1)).trans (congrArg (fun a => dBlk x0 t0 a u (y 1)) (Fin.ext ?_))
  show 4 * ((y 0).val / 4) + (y 0).val % 4 = (y 0).val
  omega

/-- A group of rows read back at its own entry. -/
theorem ld_row {e : EltTy} (D : Vec Ideal S16x512 e) (y : S16x512.Idx) : View.ld D (rowBox (rowQ y)) (rowIn y) = D y :=
  congrArg D (emb_rowIn y)

/-- After a group that is not the first, the choice extends over it. -/
theorem held_next (y : S16x512.Idx) (M : ℕ) (hf : fst = 0#1) (hd : ∀ u : Fin 4, dBlk x0 t0 (y 0) u (y 1) = e (M + u.val))
    (hc : ∀ u : Fin 4, CW u = cl (M + u.val)) (hh : Held e cl M (D y) (C y)) :
    Held e cl (M + 4) (outD (k0_pay7 x0) (k0_pay9 t0) (k0_pay8 x0) D fst y) (outC (k0_pay7 x0) (k0_pay9 t0) (k0_pay8 x0) D C CW fst y) := by
  unfold outD outC
  refine held_keep _ _ _ _ _ CW fst e cl (rowQ y) (rowIn y) M (fun u => (dist_row x0 t0 u y).trans (hd u)) hc ?_ 3 (by decide)
  refine step_plain _ _ _ CW fst e cl (rowQ y) 0 _ _ (Or.inl hf) (rowIn y) M ((dist_row x0 t0 0 y).trans (hd 0)) (hc 0) ?_
  show Held e cl M (View.ld D (rowBox (rowQ y)) (rowIn y)) (View.ld C (rowBox (rowQ y)) (rowIn y))
  rw [ld_row, ld_row]
  exact hh

/-- After the first group, whatever the blocks held before. -/
theorem held_first (y : S16x512.Idx) (hf : fst = 1#1) (hd : ∀ u : Fin 4, dBlk x0 t0 (y 0) u (y 1) = e u.val)
    (hc : ∀ u : Fin 4, CW u = cl u.val) :
    Held e cl 4 (outD (k0_pay7 x0) (k0_pay9 t0) (k0_pay8 x0) D fst y) (outC (k0_pay7 x0) (k0_pay9 t0) (k0_pay8 x0) D C CW fst y) := by
  unfold outD outC
  refine held_keep _ _ _ _ _ CW fst e cl (rowQ y) (rowIn y) 0 (fun u => (dist_row x0 t0 u y).trans ((hd u).trans (by rw [Nat.zero_add])))
    (fun u => (hc u).trans (by rw [Nat.zero_add])) ?_ 3 (by decide)
  rw [hf, stepD_first, stepC_first, dist_row, hd 0]
  exact ⟨0, Best.one e, rfl, hc 0⟩
end

end Cert.KernelIdeal.Near
-- ==== Proof.Points.lean ====
/- The running choice at every grid point: the best of the templates of the groups so far. -/
module

public import proofs.«01_k».proof.Proof.Best

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The three arguments. -/
abbrev xs (c : Dev nD) : Vec Ideal S16x4096x256 .f32 := m ((c : Thread nD τ).loc main_arg0)
abbrev ts (c : Dev nD) : Vec Ideal S64x4096x256 .f32 := m ((c : Thread nD τ).loc main_arg1)
abbrev cs (c : Dev nD) : Vec Ideal S64 .i32 := m ((c : Thread nD τ).loc main_arg2)

/-- The launch has no side condition on the class table. -/
theorem ok : Ok m := trivial

/-- The squared distance of frame `a` and template `n` at point `P`, as the kernel expands it. -/
def dst (x : Vec Ideal S16x4096x256 .f32) (t : Vec Ideal S64x4096x256 .f32) (a : Fin 16) (P : Fin 4096) (n : Fin 64) : EReal :=
  (∑ d : Fin 256, (x (ix3 a P d) : EReal) * x (ix3 a P d)) + (∑ d : Fin 256, (t (ix3 n P d) : EReal) * t (ix3 n P d))
    - ((2 : ℝ) : EReal) * ∑ d : Fin 256, (x (ix3 a P d) : EReal) * t (ix3 n P d)

/-- A natural number as a template. -/
def n64 (n : ℕ) : Fin 64 := ⟨n % 64, Nat.mod_lt _ (by decide)⟩

/-- The point of place `p` in block `i`. -/
def pt (i : ℕ) (p : Fin 512) : Fin 4096 := ⟨(512 * i + p.val) % 4096, Nat.mod_lt _ (by decide)⟩

section
variable (c : Dev nD) (t : Fin (cfgM m (ok m)).N)

/-- There are 128 grid points. -/
theorem t_lt : t.val < 128 := lt_of_lt_of_eq t.isLt (show (cfgM m (ok m)).N = 128 from N_0)

/-- The first grid coordinate: the block of columns. -/
theorem coord0 : (grid0.coords t 0).val = t.val / 16 := by
  have h : (grid0.coords t 0).val = t.val / 16 % 8 :=
    (fun t : Fin grid0.N => (Pipeline.Grid.coords_val t 0 (by decide) rfl : (grid0.coords t 0).val = t.val / 16 % 8)) t
  have := t_lt m t
  omega
/-- The second grid coordinate: the group of templates. -/
theorem coord1 : (grid0.coords t 1).val = t.val % 16 := by
  have h : (grid0.coords t 1).val = t.val / 1 % 16 :=
    (fun t : Fin grid0.N => (Pipeline.Grid.coords_val t 1 (by decide) rfl : (grid0.coords t 1).val = t.val / 1 % 16)) t
  omega

/-- A small number read back from its word. -/
theorem word_nat (n : ℕ) (h : n < 128) : (BitVec.ofNat 32 n).toNat = n := by
  rw [BitVec.toNat_ofNat]; omega

/-- The block of frames a grid point reads. -/
theorem index0 : cc0_transform_0 (grid0.coords t) = ![0, t.val / 16, 0] := by
  have := t_lt m t
  unfold cc0_transform_0
  dsimp only
  rw [coord0 m t, word_nat (t.val / 16) (by omega)]
  rfl
/-- The block of templates a grid point reads. -/
theorem index1 : cc0_transform_1 (grid0.coords t) = ![t.val % 16, t.val / 16, 0] := by
  have := t_lt m t
  unfold cc0_transform_1
  dsimp only
  rw [coord0 m t, coord1 m t, word_nat (t.val / 16) (by omega), word_nat (t.val % 16) (by omega)]
  rfl

/-- What the query window reads. -/
def xBlk (x : Vec Ideal S16x4096x256 .f32) (i : ℕ) : Vec Ideal S16x512x256 .f32 := fun y => x (ix3 (y 0) (pt i (y 1)) (y 2))

/-- The block of frames, entry by entry. -/
theorem iblk0_at (y : S16x512x256.Idx) : (iblk m (ok m) c 0 t : Vec Ideal S16x512x256 .f32) y = xBlk (xs m c) (t.val / 16) y := by
  have ht := t_lt m t
  have hi := index0 m t
  unfold iblk
  refine (View.read_apply ..).trans ?_
  show m ((c : Thread nD τ).loc main_arg0) _ = m ((c : Thread nD τ).loc main_arg0) _
  refine congrArg (m ((c : Thread nD τ).loc main_arg0)) (funext fun a => Fin.ext ?_)
  have h1 : (y 1).val < 512 := (y 1).isLt
  match a with
  | ⟨0, _⟩ =>
    show cc0_transform_0 (grid0.coords t) 0 * 16 + 1 * (y 0).val = (y 0).val
    rw [hi]
    show 0 * 16 + 1 * (y 0).val = (y 0).val
    omega
  | ⟨1, _⟩ =>
    show cc0_transform_0 (grid0.coords t) 1 * 512 + 1 * (y 1).val = (512 * (t.val / 16) + (y 1).val) % 4096
    rw [hi]
    show t.val / 16 * 512 + 1 * (y 1).val = (512 * (t.val / 16) + (y 1).val) % 4096
    omega
  | ⟨2, _⟩ =>
    show cc0_transform_0 (grid0.coords t) 2 * 256 + 1 * (y 2).val = (y 2).val
    rw [hi]
    show 0 * 256 + 1 * (y 2).val = (y 2).val
    omega

/-- The block of frames. -/
theorem iblk0 : (iblk m (ok m) c 0 t : Vec Ideal S16x512x256 .f32) = xBlk (xs m c) (t.val / 16) := funext (iblk0_at m c t)

/-- What the template window reads at point `t`, at one entry. -/
theorem iblk1_at (u : Fin 4) (p : Fin 512) (d : Fin 256) :
    (iblk m (ok m) c 1 t : Vec Ideal S4x512x256 .f32) (ix3 u p d) = ts m c (ix3 (n64 (4 * (t.val % 16) + u.val)) (pt (t.val / 16) p) d) := by
  have ht := t_lt m t
  have hi := index1 m t
  unfold iblk
  refine (View.read_apply ..).trans ?_
  show m ((c : Thread nD τ).loc main_arg1) _ = m ((c : Thread nD τ).loc main_arg1) _
  refine congrArg (m ((c : Thread nD τ).loc main_arg1)) (funext fun a => Fin.ext ?_)
  have hu : u.val < 4 := u.isLt
  have hp : p.val < 512 := p.isLt
  match a with
  | ⟨0, _⟩ =>
    show cc0_transform_1 (grid0.coords t) 0 * 4 + 1 * u.val = (4 * (t.val % 16) + u.val) % 64
    rw [hi]
    show t.val % 16 * 4 + 1 * u.val = (4 * (t.val % 16) + u.val) % 64
    omega
  | ⟨1, _⟩ =>
    show cc0_transform_1 (grid0.coords t) 1 * 512 + 1 * p.val = (512 * (t.val / 16) + p.val) % 4096
    rw [hi]
    show t.val / 16 * 512 + 1 * p.val = (512 * (t.val / 16) + p.val) % 4096
    omega
  | ⟨2, _⟩ =>
    show cc0_transform_1 (grid0.coords t) 2 * 256 + 1 * d.val = d.val
    rw [hi]
    show 0 * 256 + 1 * d.val = d.val
    omega

/-- The block distances of the point are the distances of the arrays. -/
theorem dBlk_at (a : Fin 16) (u : Fin 4) (p : Fin 512) :
    dBlk (xBlk (xs m c) (t.val / 16)) (iblk m (ok m) c 1 t) a u p
      = dst (xs m c) (ts m c) a (pt (t.val / 16) p) (n64 (4 * (t.val % 16) + u.val)) := by
  unfold dBlk dst
  simp only [iblk1_at m c t]
  rfl

/-- The class word the point reads for template `u` of its group. -/
theorem clsW_at (u : Fin 4) : clsW c (grid0.coords t) (tbl m 0) u = cs m 0 (ix1 (n64 (4 * (t.val % 16) + u.val))) := by
  have ht := t_lt m t
  have hu : u.val < 4 := u.isLt
  unfold clsW
  refine (congrFun (View.readAt_eq_ld ..) _).trans ?_
  show m (((0 : Dev nD) : Thread nD τ).loc main_arg2) _ = m (((0 : Dev nD) : Thread nD τ).loc main_arg2) _
  refine congrArg (m (((0 : Dev nD) : Thread nD τ).loc main_arg2)) (funext fun a => Fin.ext ?_)
  match a with
  | ⟨0, _⟩ =>
    show k0_off1 (grid0.coords t) (BitVec.ofNat 32 u.val) 0 + 1 * 0 = (4 * (t.val % 16) + u.val) % 64
    rw [k0_off1_eq]
    show 4 * (grid0.coords t 1).val + u.val + 1 * 0 = (4 * (t.val % 16) + u.val) % 64
    rw [coord1 m t]
    omega
end

/-- What the buffers hold after point `n`. -/
def After (c : Dev nD) (n : ℕ) (s : St Ideal) : Prop :=
  s.X = k0_pay7 (xBlk (xs m c) (n / 16)) ∧ s.N = k0_pay8 (xBlk (xs m c) (n / 16)) ∧
  ∀ y : S16x512.Idx, Held (fun k => dst (xs m c) (ts m c) (y 0) (pt (n / 16) (y 1)) (n64 k)) (fun k => cs m 0 (ix1 (n64 k)))
    (4 * (n % 16) + 4) (s.D y) (s.C y)

/-- After the first group of templates. -/
theorem after_first (c : Dev nD) (t : Fin (cfgM m (ok m)).N) (h : t.val % 16 = 0) : After m c t.val (stFirst m (ok m) c t) := by
  unfold stFirst stOf After
  rw [iblk0 m c t]
  refine ⟨rfl, rfl, fun y => ?_⟩
  have h4 : 4 * (t.val % 16) + 4 = 4 := by omega
  rw [h4]
  refine held_first _ _ _ _ _ _ _ _ y (fstW_eq _ ((hcond0_0 t).mpr h)) (fun u => ?_) (fun u => ?_)
  · refine (dBlk_at m c t (y 0) u (y 1)).trans ?_
    rw [show 4 * (t.val % 16) + u.val = u.val by omega]
  · refine (clsW_at m c t u).trans ?_
    rw [show 4 * (t.val % 16) + u.val = u.val by omega]

/-- After a further group of templates. -/
theorem after_next (c : Dev nD) (t : Fin (cfgM m (ok m)).N) (h : ¬t.val % 16 = 0) (s : St Ideal) (hs : After m c (t.val - 1) s) :
    After m c t.val (stOf m (ok m) c t s.X s.N s.D s.C) := by
  obtain ⟨h1, h2, h3⟩ := hs
  have hq : (t.val - 1) / 16 = t.val / 16 := by omega
  have hr : 4 * ((t.val - 1) % 16) + 4 = 4 * (t.val % 16) := by omega
  rw [hq] at h1 h2 h3
  rw [hr] at h3
  unfold stOf After
  refine ⟨h1, h2, fun y => ?_⟩
  dsimp only
  rw [h1, h2]
  exact held_next _ _ _ _ _ _ _ _ y _ (fstW_ne _ (mt (hcond0_0 t).mp h)) (fun u => dBlk_at m c t (y 0) u (y 1))
    (fun u => clsW_at m c t u) (h3 y)

/-- Every point leaves its buffers so. -/
theorem after_all (c : Dev nD) : ∀ (n : ℕ) (h : n < (cfgM m (ok m)).N), After m c n (stAt m (ok m) c n h)
  | 0, h => by
    rw [stAt_first m (ok m) c ⟨0, h⟩ rfl]
    exact after_first m c ⟨0, h⟩ rfl
  | n + 1, h => by
    by_cases h0 : (n + 1) % 16 = 0
    · rw [stAt_first m (ok m) c ⟨n + 1, h⟩ h0]
      exact after_first m c ⟨n + 1, h⟩ h0
    · rw [stAt_next m (ok m) c ⟨n + 1, h⟩ h0 (Nat.lt_of_succ_lt h)]
      exact after_next m c ⟨n + 1, h⟩ h0 _ (after_all c n (Nat.lt_of_succ_lt h))

end Cert.KernelIdeal.Near
-- ==== Proof.Arrays.lean ====
/- The kernel's five results, entry by entry: the distance and class of the nearest template, and the masks. -/
module

public import proofs.«01_k».proof.Proof.Points
public import Idealize.ShloMosaic.Lib.Pipeline.ValueKit.Geometry

@[expose] public section

set_option maxRecDepth 16384

noncomputable section

namespace Cert.KernelIdeal.Near

open Cert.KernelIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-- The distances of one frame and point, by template. -/
abbrev dsts (c : Dev nD) (i : S16x4096.Idx) : ℕ → EReal := fun k => dst (xs m c) (ts m c) (i 0) (i 1) (n64 k)

/-- The classes, by template. -/
abbrev clss : ℕ → BitVec 32 := fun k => cs m 0 (ix1 (n64 k))

/-- The output block of a grid point: all rows, the point's columns. -/
theorem index5 (t : Fin (cfgM m (ok m)).N) : cc0_transform_5 (grid0.coords t) = ![0, t.val / 16] := by
  have := t_lt m t
  unfold cc0_transform_5
  dsimp only
  rw [coord0 m t, word_nat (t.val / 16) (by omega)]
  rfl

/-- The array entry under place `y` of the block of point `t`. -/
def up (t : ℕ) (y : S16x512.Idx) : S16x4096.Idx := ix2 (y 0) (pt (t / 16) (y 1))

/-- Where an entry of the distance block lies in its array. -/
theorem up_emb (t : Fin (cfgM m (ok m)).N) (y : S16x512.Idx) : ((((cfgM m (ok m)).win 5).blk t).view.emb y : S16x4096.Idx) = up t.val y := by
  have ht := t_lt m t
  have hi := index5 m t
  refine funext fun a => Fin.ext ?_
  have h1 : (y 1).val < 512 := (y 1).isLt
  match a with
  | ⟨0, _⟩ =>
    show cc0_transform_5 (grid0.coords t) 0 * 16 + 1 * (y 0).val = (y 0).val
    rw [hi]
    show 0 * 16 + 1 * (y 0).val = (y 0).val
    omega
  | ⟨1, _⟩ =>
    show cc0_transform_5 (grid0.coords t) 1 * 512 + 1 * (y 1).val = (512 * (t.val / 16) + (y 1).val) % 4096
    rw [hi]
    show t.val / 16 * 512 + 1 * (y 1).val = (512 * (t.val / 16) + (y 1).val) % 4096
    omega

/-- After a block's last point its entries are those of the nearest of all templates. -/
theorem held_last (c : Dev nD) (t : Fin (cfgM m (ok m)).N) (h : t.val % 16 = 15) (y : S16x512.Idx) :
    Held (dsts m c (up t.val y)) (clss m) 64 ((stAt m (ok m) c t.val t.isLt).D y) ((stAt m (ok m) c t.val t.isLt).C y) := by
  have h3 := (after_all m c t.val t.isLt).2.2 y
  rw [show 4 * (t.val % 16) + 4 = 64 by omega] at h3
  exact h3

/-- A place of a view is in its set. -/
theorem mem_emb {sp : Space} {S : Shape} {e : EltTy} (v : View sig .tc sp S e) {i : v.ty.Idx} (x : S.Idx) (h : v.emb x = i) : i ∈ v.set :=
  h ▸ v.emb_mem_set x

/-- Some point writes back the block of each entry. -/
theorem cover5 (i : S16x4096.Idx) : ∃ t : Fin (cfgM m (ok m)).N, ((cfgM m (ok m)).win 5).flush t = true ∧ i ∈ (((cfgM m (ok m)).win 5).blk t).view.set := by
  have h1 : (i 1).val < 4096 := (i 1).isLt
  have hlt : 16 * ((i 1).val / 512) + 15 < (cfgM m (ok m)).N := by
    have hN : (cfgM m (ok m)).N = 128 := N_0
    omega
  refine ⟨⟨16 * ((i 1).val / 512) + 15, hlt⟩, (flush0_5 (adm m (ok m)) _).mpr (by show (16 * ((i 1).val / 512) + 15) % 16 = 15; omega), ?_⟩
  have he := up_emb m ⟨16 * ((i 1).val / 512) + 15, hlt⟩ (ix2 (i 0) ⟨(i 1).val % 512, Nat.mod_lt _ (by decide)⟩)
  have hu : up (16 * ((i 1).val / 512) + 15) (ix2 (i 0) ⟨(i 1).val % 512, Nat.mod_lt _ (by decide)⟩) = i := by
    refine funext fun a => Fin.ext ?_
    match a with
    | ⟨0, _⟩ => rfl
    | ⟨1, _⟩ =>
      show (512 * ((16 * ((i 1).val / 512) + 15) / 16) + (i 1).val % 512) % 4096 = (i 1).val
      omega
  exact mem_emb _ _ (he.trans hu)

/-! The other outputs' windows move alike. -/

/-- Where an entry of the first mask block lies in its array. -/
theorem up_emb2 (t : Fin (cfgM m (ok m)).N) (y : S16x512.Idx) : ((((cfgM m (ok m)).win 2).blk t).view.emb y : S16x4096.Idx) = up t.val y :=
  up_emb m t y
/-- Every entry of the first mask is written back once. -/
theorem cover2 (i : S16x4096.Idx) : ∃ t : Fin (cfgM m (ok m)).N, ((cfgM m (ok m)).win 2).flush t = true ∧ i ∈ (((cfgM m (ok m)).win 2).blk t).view.set := by
  obtain ⟨t, hf, hi⟩ := cover5 m i
  exact ⟨t, (flush0_2 (adm m (ok m)) t).mpr ((flush0_5 (adm m (ok m)) t).mp hf), hi⟩
/-- Where an entry of the second mask block lies in its array. -/
theorem up_emb3 (t : Fin (cfgM m (ok m)).N) (y : S16x512.Idx) : ((((cfgM m (ok m)).win 3).blk t).view.emb y : S16x4096.Idx) = up t.val y :=
  up_emb m t y
/-- Every entry of the second mask is written back once. -/
theorem cover3 (i : S16x4096.Idx) : ∃ t : Fin (cfgM m (ok m)).N, ((cfgM m (ok m)).win 3).flush t = true ∧ i ∈ (((cfgM m (ok m)).win 3).blk t).view.set := by
  obtain ⟨t, hf, hi⟩ := cover5 m i
  exact ⟨t, (flush0_3 (adm m (ok m)) t).mpr ((flush0_5 (adm m (ok m)) t).mp hf), hi⟩
/-- Where an entry of the third mask block lies in its array. -/
theorem up_emb4 (t : Fin (cfgM m (ok m)).N) (y : S16x512.Idx) : ((((cfgM m (ok m)).win 4).blk t).view.emb y : S16x4096.Idx) = up t.val y :=
  up_emb m t y
/-- Every entry of the third mask is written back once. -/
theorem cover4 (i : S16x4096.Idx) : ∃ t : Fin (cfgM m (ok m)).N, ((cfgM m (ok m)).win 4).flush t = true ∧ i ∈ (((cfgM m (ok m)).win 4).blk t).view.set := by
  obtain ⟨t, hf, hi⟩ := cover5 m i
  exact ⟨t, (flush0_4 (adm m (ok m)) t).mpr ((flush0_5 (adm m (ok m)) t).mp hf), hi⟩
/-- Where an entry of the class block lies in its array. -/
theorem up_emb6 (t : Fin (cfgM m (ok m)).N) (y : S16x512.Idx) : ((((cfgM m (ok m)).win 6).blk t).view.emb y : S16x4096.Idx) = up t.val y :=
  up_emb m t y
/-- Every entry of the classes is written back once. -/
theorem cover6 (i : S16x4096.Idx) : ∃ t : Fin (cfgM m (ok m)).N, ((cfgM m (ok m)).win 6).flush t = true ∧ i ∈ (((cfgM m (ok m)).win 6).blk t).view.set := by
  obtain ⟨t, hf, hi⟩ := cover5 m i
  exact ⟨t, (flush0_6 (adm m (ok m)) t).mpr ((flush0_5 (adm m (ok m)) t).mp hf), hi⟩

/-! ## The result arrays -/

/-- The mask word of a least distance. -/
def maskW (w : BitVec 32) (d : EReal) : BitVec 32 := (Ideal.cmp .ole d (Ideal.ofBits .f32 w)).zeroExtend 32

/-- A mask block at one entry. -/
theorem pay_at (w : BitVec 32) (d : FVec Ideal S16x512 .f32) (y : S16x512.Idx) :
    (extui 32 (cmpf .ole (shapeCast S16x512 d shapeCasts_S16x512_S16x512) (broadcast S16x512 (Scalar.ofBits (F := Ideal) .f32 w))) : IVec S16x512 32) y
      = maskW w (d y) := by
  rw [shapeCast_self]
  rfl

/-- The first mask word of the best template. -/
theorem arr2 (c : Dev nD) (i : S16x4096.Idx) :
    ∃ k, Best (dsts m c i) 64 k ∧ (dats m (ok m) 0 c).arrAt 2 (cfgM m (ok m)).N i = maskW 0x42480000#32 (dsts m c i k) := by
  refine (dats m (ok m) 0 c).arrAt_forall_of_cover 2 (fun i v => ∃ k, Best (dsts m c i) 64 k ∧ v = maskW 0x42480000#32 (dsts m c i k)) (fun t hf y => ?_) (cover2 m) i
  have h := held_last m c t ((flush0_2 (adm m (ok m)) t).mp hf) y
  rw [← up_emb2 m t y] at h
  obtain ⟨k, hk, hd, _⟩ := h
  refine ⟨k, hk, Eq.trans ?_ (congrArg (maskW 0x42480000#32) hd)⟩
  show (dats m (ok m) 0 c).after 2 t y = _
  rw [after0_2]
  exact pay_at 0x42480000#32 (stAt m (ok m) c t.val t.isLt).D y
/-- The second mask word of the best template. -/
theorem arr3 (c : Dev nD) (i : S16x4096.Idx) :
    ∃ k, Best (dsts m c i) 64 k ∧ (dats m (ok m) 0 c).arrAt 3 (cfgM m (ok m)).N i = maskW 0x42C80000#32 (dsts m c i k) := by
  refine (dats m (ok m) 0 c).arrAt_forall_of_cover 3 (fun i v => ∃ k, Best (dsts m c i) 64 k ∧ v = maskW 0x42C80000#32 (dsts m c i k)) (fun t hf y => ?_) (cover3 m) i
  have h := held_last m c t ((flush0_3 (adm m (ok m)) t).mp hf) y
  rw [← up_emb3 m t y] at h
  obtain ⟨k, hk, hd, _⟩ := h
  refine ⟨k, hk, Eq.trans ?_ (congrArg (maskW 0x42C80000#32) hd)⟩
  show (dats m (ok m) 0 c).after 3 t y = _
  rw [after0_3]
  exact pay_at 0x42C80000#32 (stAt m (ok m) c t.val t.isLt).D y
/-- The third mask word of the best template. -/
theorem arr4 (c : Dev nD) (i : S16x4096.Idx) :
    ∃ k, Best (dsts m c i) 64 k ∧ (dats m (ok m) 0 c).arrAt 4 (cfgM m (ok m)).N i = maskW 0x43480000#32 (dsts m c i k) := by
  refine (dats m (ok m) 0 c).arrAt_forall_of_cover 4 (fun i v => ∃ k, Best (dsts m c i) 64 k ∧ v = maskW 0x43480000#32 (dsts m c i k)) (fun t hf y => ?_) (cover4 m) i
  have h := held_last m c t ((flush0_4 (adm m (ok m)) t).mp hf) y
  rw [← up_emb4 m t y] at h
  obtain ⟨k, hk, hd, _⟩ := h
  refine ⟨k, hk, Eq.trans ?_ (congrArg (maskW 0x43480000#32) hd)⟩
  show (dats m (ok m) 0 c).after 4 t y = _
  rw [after0_4]
  exact pay_at 0x43480000#32 (stAt m (ok m) c t.val t.isLt).D y
/-- The distance array ends at the best template's distance. -/
theorem arr5 (c : Dev nD) (i : S16x4096.Idx) :
    ∃ k, Best (dsts m c i) 64 k ∧ (dats m (ok m) 0 c).arrAt 5 (cfgM m (ok m)).N i = dsts m c i k := by
  refine (dats m (ok m) 0 c).arrAt_forall_of_cover 5 (fun i v => ∃ k, Best (dsts m c i) 64 k ∧ v = dsts m c i k) (fun t hf y => ?_) (cover5 m) i
  have h := held_last m c t ((flush0_5 (adm m (ok m)) t).mp hf) y
  rw [← up_emb m t y] at h
  obtain ⟨k, hk, hd, _⟩ := h
  refine ⟨k, hk, Eq.trans ?_ hd⟩
  show (dats m (ok m) 0 c).after 5 t y = _
  rw [after0_5]
/-- The class array ends at the best template's class. -/
theorem arr6 (c : Dev nD) (i : S16x4096.Idx) :
    ∃ k, Best (dsts m c i) 64 k ∧ (dats m (ok m) 0 c).arrAt 6 (cfgM m (ok m)).N i = clss m k := by
  refine (dats m (ok m) 0 c).arrAt_forall_of_cover 6 (fun i v => ∃ k, Best (dsts m c i) 64 k ∧ v = clss m k) (fun t hf y => ?_) (cover6 m) i
  have h := held_last m c t ((flush0_6 (adm m (ok m)) t).mp hf) y
  rw [← up_emb6 m t y] at h
  obtain ⟨k, hk, _, hc⟩ := h
  refine ⟨k, hk, Eq.trans ?_ hc⟩
  show (dats m (ok m) 0 c).after 6 t y = _
  rw [after0_6]

/-! ## After the host lines -/

/-- Buffers after the run. -/
abbrev fin (c : Dev nD) (b : Ref sig .tc) : Buf (Elt Ideal) ((c : Thread nD τ).loc b) :=
  Pipeline.afterTail pcfgs (fun _ => adm m (ok m)) (dats m (ok m)) 0 (V0 m) [hostOps1] c b

/-- The windows' arrays are distinct buffers. -/
theorem arr_inj : Function.Injective (Pipeline.arrRef spec0) := by decide

/-- Where the mask word is not zero. -/
theorem nz_mask (w : BitVec 32) (d : EReal) : IntOp.cmpi .ne (maskW w d) 0#32 = Ideal.cmp .ole d (Ideal.ofBits .f32 w) := by
  unfold maskW
  generalize Ideal.cmp .ole d (Ideal.ofBits .f32 w) = b
  revert b
  decide

/-- The first mask after the host lines. -/
theorem fin_v3 (c : Dev nD) (i : S16x4096.Idx) :
    ∃ k, Best (dsts m c i) 64 k ∧ (fin m c main_v3 : IVec S16x4096 1) i = Ideal.cmp .ole (dsts m c i k) (Ideal.ofBits .f32 0x42480000#32) := by
  obtain ⟨k, hk, h⟩ := arr2 m c i
  refine ⟨k, hk, Eq.trans ?_ (nz_mask 0x42480000#32 (dsts m c i k))⟩
  rw [← h]
  unfold fin Pipeline.afterTail
  simp only [List.flatten_cons, List.flatten_nil, List.append_nil]
  after_results
  have ha := Pipeline.withArrays_arr spec0 arr_inj c (V0 m c) (fun w => (dats m (ok m) 0 c).arrAt w (cfgM m (ok m)).N) 2
  exact congrArg (fun f : IVec S16x4096 32 => IntOp.cmpi .ne (f i) 0#32) ha
/-- The second mask after the host lines. -/
theorem fin_v6 (c : Dev nD) (i : S16x4096.Idx) :
    ∃ k, Best (dsts m c i) 64 k ∧ (fin m c main_v6 : IVec S16x4096 1) i = Ideal.cmp .ole (dsts m c i k) (Ideal.ofBits .f32 0x42C80000#32) := by
  obtain ⟨k, hk, h⟩ := arr3 m c i
  refine ⟨k, hk, Eq.trans ?_ (nz_mask 0x42C80000#32 (dsts m c i k))⟩
  rw [← h]
  unfold fin Pipeline.afterTail
  simp only [List.flatten_cons, List.flatten_nil, List.append_nil]
  after_results
  have ha := Pipeline.withArrays_arr spec0 arr_inj c (V0 m c) (fun w => (dats m (ok m) 0 c).arrAt w (cfgM m (ok m)).N) 3
  exact congrArg (fun f : IVec S16x4096 32 => IntOp.cmpi .ne (f i) 0#32) ha
/-- The third mask after the host lines. -/
theorem fin_v9 (c : Dev nD) (i : S16x4096.Idx) :
    ∃ k, Best (dsts m c i) 64 k ∧ (fin m c main_v9 : IVec S16x4096 1) i = Ideal.cmp .ole (dsts m c i k) (Ideal.ofBits .f32 0x43480000#32) := by
  obtain ⟨k, hk, h⟩ := arr4 m c i
  refine ⟨k, hk, Eq.trans ?_ (nz_mask 0x43480000#32 (dsts m c i k))⟩
  rw [← h]
  unfold fin Pipeline.afterTail
  simp only [List.flatten_cons, List.flatten_nil, List.append_nil]
  after_results
  have ha := Pipeline.withArrays_arr spec0 arr_inj c (V0 m c) (fun w => (dats m (ok m) 0 c).arrAt w (cfgM m (ok m)).N) 4
  exact congrArg (fun f : IVec S16x4096 32 => IntOp.cmpi .ne (f i) 0#32) ha

end Cert.KernelIdeal.Near
-- ==== Proof.Ref.lean ====
/- The run of the reference: a straight line of host operations. Every buffer ends at the operations' results
   folded over the launch contents; the five results are named here as functions of the three arguments. -/
module

public import Idealize.ShloMosaic.Lib.StableHlo.Run
public import Idealize.ShloMosaic.Lib.Quiescent
public import proofs.«01_k».proof.Proof.Gen.ReferenceIdeal

@[expose] public section

noncomputable section

namespace Cert.ReferenceIdeal.Near

open Cert.ReferenceIdeal Cert.ReferenceIdeal.Gen
open Idealize.ShloMosaic Idealize.ShloMosaic.TcCoe Idealize.ShloMosaic.StableHlo Idealize.SL.Sem

variable {F : FTy → Type} [FloatOps F]

/-- The difference of every frame with every template. -/
def refDiff (x : FVec F S16x4096x256 .f32) (t : FVec F S64x4096x256 .f32) : FVec F S16x64x4096x256 .f32 :=
  subf (broadcastInDim S16x64x4096x256 ![0, 1, 2, 3] bcast_S16x1x4096x256_S16x64x4096x256_0_1_2_3
      (broadcastInDim S16x1x4096x256 ![0, 2, 3] bcast_S16x4096x256_S16x1x4096x256_0_2_3 x))
    (broadcastInDim S16x64x4096x256 ![0, 1, 2, 3] bcast_S1x64x4096x256_S16x64x4096x256_0_1_2_3
      (broadcastInDim S1x64x4096x256 ![1, 2, 3] bcast_S64x4096x256_S1x64x4096x256_1_2_3 t))

/-- The squared distances. -/
def refDist (x : FVec F S16x4096x256 .f32) (t : FVec F S64x4096x256 .f32) : FVec F S16x64x4096 .f32 :=
  Host.reduceAdd (Host.powf (refDiff x t) (broadcastInDim S16x64x4096x256 ![] bcast_S_S16x64x4096x256 (constant S_ .f32 0x40000000#32)))
    (constant S_ .f32 0x00000000#32) reducesTo_S16x64x4096x256_S16x64x4096_d3 h_S_

/-- The least distance over the templates. -/
def refMin (d : FVec F S16x64x4096 .f32) : FVec F S16x4096 .f32 :=
  Host.reduce FloatOps.minimumf d (constant S_ .f32 0x7F800000#32) reducesTo_S16x64x4096_S16x4096_d1 h_S_

/-- The index of the nearest template. -/
def refArg (d : FVec F S16x64x4096 .f32) : IVec S16x4096 32 := fun j =>
  (Host.argReduce reducer_argmin_f32_i32 d (iotaInDim S16x64x4096 32 1) (constant S_ .f32 0x7F800000#32) (constantI S_ 32 0#32)
    reducesTo_S16x64x4096_S16x4096_d1 h_S_ j).2

/-- One mask: where the least distance is at most the threshold. -/
def refMask (w : BitVec 32) (mn : FVec F S16x4096 .f32) : IVec S16x4096 1 :=
  cmpf .ole mn (broadcastInDim S16x4096 ![] bcast_S_S16x4096 (constant S_ .f32 w))

/-- The class of the nearest template: the class table read at the index, a negative index counted from the end. -/
def refCls (cl : IVec S64 32) (ix : IVec S16x4096 32) : IVec S16x4096 32 :=
  Host.gather gather_S64_S16x4096x1_S16x4096_n_0_n_n_0_2_1 cl
    (broadcastInDim S16x4096x1 ![0, 1] bcast_S16x4096_S16x4096x1_0_1
      (select (cmpi .slt ix (broadcastInDim S16x4096 ![] bcast_S_S16x4096 (constantI S_ 32 0#32)))
        (addi ix (broadcastInDim S16x4096 ![] bcast_S_S16x4096 (constantI S_ 32 64#32))) ix))

/-- @main's operations, in order. -/
abbrev ops : List (HloOp τ sig (Elt F)) :=
  [ unary main_arg0 main_v0 (broadcastInDim S16x1x4096x256 ![0, 2, 3] bcast_S16x4096x256_S16x1x4096x256_0_2_3),
    unary main_arg1 main_v1 (broadcastInDim S1x64x4096x256 ![1, 2, 3] bcast_S64x4096x256_S1x64x4096x256_1_2_3),
    unary main_v0 main_v2 (broadcastInDim S16x64x4096x256 ![0, 1, 2, 3] bcast_S16x1x4096x256_S16x64x4096x256_0_1_2_3),
    unary main_v1 main_v3 (broadcastInDim S16x64x4096x256 ![0, 1, 2, 3] bcast_S1x64x4096x256_S16x64x4096x256_0_1_2_3),
    binary main_v2 main_v3 main_v4 subf,
    nullary main_cst (constant S_ .f32 0x40000000#32),
    unary main_cst main_v5 (broadcastInDim S16x64x4096x256 ![] bcast_S_S16x64x4096x256),
    binary main_v4 main_v5 main_v6 Host.powf,
    nullary main_cst_0 (constant S_ .f32 0x00000000#32),
    binary main_v6 main_cst_0 main_v7 (fun x v => Host.reduceAdd x v reducesTo_S16x64x4096x256_S16x64x4096_d3 h_S_),
    nullary main_cst_1 (constant S_ .f32 0x7F800000#32),
    binary main_v7 main_cst_1 main_v8 (fun x v => Host.reduce FloatOps.minimumf x v reducesTo_S16x64x4096_S16x4096_d1 h_S_),
    nullary main_call0_v0 (iotaInDim S16x64x4096 32 1),
    nullary main_call0_cst (constant S_ .f32 0x7F800000#32),
    nullary main_call0_c (constantI S_ 32 0#32),
    quaternary main_v7 main_call0_v0 main_call0_cst main_call0_c main_call0_v1_0
      (fun x y u v j => (Host.argReduce reducer_argmin_f32_i32 x y u v reducesTo_S16x64x4096_S16x4096_d1 h_S_ j).1),
    quaternary main_v7 main_call0_v0 main_call0_cst main_call0_c main_v9
      (fun x y u v j => (Host.argReduce reducer_argmin_f32_i32 x y u v reducesTo_S16x64x4096_S16x4096_d1 h_S_ j).2),
    nullary main_cst_2 (constant S_ .f32 0x42480000#32),
    unary main_cst_2 main_v10 (broadcastInDim S16x4096 ![] bcast_S_S16x4096),
    binary main_v8 main_v10 main_v11 (cmpf .ole),
    nullary main_cst_3 (constant S_ .f32 0x42C80000#32),
    unary main_cst_3 main_v12 (broadcastInDim S16x4096 ![] bcast_S_S16x4096),
    binary main_v8 main_v12 main_v13 (cmpf .ole),
    nullary main_cst_4 (constant S_ .f32 0x43480000#32),
    unary main_cst_4 main_v14 (broadcastInDim S16x4096 ![] bcast_S_S16x4096),
    binary main_v8 main_v14 main_v15 (cmpf .ole),
    nullary main_c (constantI S_ 32 0#32),
    unary main_c main_v16 (broadcastInDim S16x4096 ![] bcast_S_S16x4096),
    binary main_v9 main_v16 main_v17 (cmpi .slt),
    nullary main_c_5 (constantI S_ 32 64#32),
    unary main_c_5 main_v18 (broadcastInDim S16x4096 ![] bcast_S_S16x4096),
    binary main_v9 main_v18 main_v19 addi,
    ternary main_v17 main_v19 main_v9 main_v20 select,
    unary main_v20 main_v21 (broadcastInDim S16x4096x1 ![0, 1] bcast_S16x4096_S16x4096x1_0_1),
    binary main_arg2 main_v21 main_v22 (fun x i => Host.gather gather_S64_S16x4096x1_S16x4096_n_0_n_n_0_2_1 x i) ]

/-- @main is that straight line. -/
theorem main_eq (c : Dev nD) : main (F := F) c = seq ops := rfl

section
variable (V : Valuation τ sig (Elt F))

/-- The least distances at the end. -/
theorem min_eq : after ops V (main_v8 : DevRef τ sig)
    = refMin (refDist (V (main_arg0 : DevRef τ sig)) (V (main_arg1 : DevRef τ sig))) := by
  after_results
  rfl
/-- The mask at threshold 50 at the end. -/
theorem mask0_eq : after ops V (main_v11 : DevRef τ sig)
    = refMask 0x42480000#32 (refMin (refDist (V (main_arg0 : DevRef τ sig)) (V (main_arg1 : DevRef τ sig)))) := by
  after_results
  rfl
/-- The mask at threshold 100 at the end. -/
theorem mask1_eq : after ops V (main_v13 : DevRef τ sig)
    = refMask 0x42C80000#32 (refMin (refDist (V (main_arg0 : DevRef τ sig)) (V (main_arg1 : DevRef τ sig)))) := by
  after_results
  rfl
/-- The mask at threshold 200 at the end. -/
theorem mask2_eq : after ops V (main_v15 : DevRef τ sig)
    = refMask 0x43480000#32 (refMin (refDist (V (main_arg0 : DevRef τ sig)) (V (main_arg1 : DevRef τ sig)))) := by
  after_results
  rfl
/-- The classes at the end. -/
theorem cls_eq : after ops V (main_v22 : DevRef τ sig)
    = refCls (V (main_arg2 : DevRef τ sig)) (refArg (refDist (V (main_arg0 : DevRef τ sig)) (V (main_arg1 : DevRef τ sig)))) := by
  after_results
  rfl
/-- The frames are unchanged. -/
theorem arg0_eq : after ops V (main_arg0 : DevRef τ sig) = V (main_arg0 : DevRef τ sig) := by after_results
/-- The templates are unchanged. -/
theorem arg1_eq : after ops V (main_arg1 : DevRef τ sig) = V (main_arg1 : DevRef τ sig) := by after_results
/-- The class table is unchanged. -/
theorem arg2_eq : after ops V (main_arg2 : DevRef τ sig) = V (main_arg2 : DevRef τ sig) := by after_results
end

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

variable (m : (ℓ : Loc nD τ sig) → Buf (Elt F) ℓ) (ρ : Dev nD → PrngReg)

/-- Every execution terminates with every counter at zero and every TensorCore buffer at the folded contents. -/
theorem run_all : θ_run defs (onTc (τ := τ) (main (F := F))) ⟨m, fun _ => 0, ρ⟩ fun r =>
    (∀ (c : Dev nD) (b : Ref sig .tc), r.2.mem ((c.tc : Thread nD τ).loc b) = after ops (fun b => m (c, b)) (b : DevRef τ sig)) ∧ r.2.sem = fun _ => 0 :=
  (θ_run defs _ _).mono (fun r h => ⟨h, sem_eq_zero_of_no_sems rfl r.2⟩)
    (run_seq scopedRefs_eq scopedSems_eq defs main (fun _ => ops) main_eq (fun _ => ops_sub) m ρ)

end Cert.ReferenceIdeal.Near

end
-- ==== Proof.RefArg.lean ====
/- The reference's reduction to the nearest template at the extended reals. -/
module

public import proofs.«01_k».proof.Proof.Ref
public import proofs.«01_k».proof.Proof.Points
public import proofs.«01_k».proof.Proof.Gen.Pre_finite_arrays
public import proofs.«01_k».proof.Pre_finite_arrays
public import Idealize.ShloMosaic.Lib.Pointwise
public import Idealize.ShloMosaic.Lib.StableHlo.Predicate

@[expose] public section

set_option maxRecDepth 16384

noncomputable section

namespace Cert.ReferenceIdeal.Near

open Cert.ReferenceIdeal Cert.ReferenceIdeal.Gen
open Idealize.ShloMosaic Idealize.ShloMosaic.TcCoe Idealize.ShloMosaic.StableHlo Idealize.SL.Sem
open Cert.KernelIdeal.Near (Best n64 dst two_bits)

/-- The pattern of the minimum's start. -/
theorem top_bits : Ideal.ofBits .f32 0x7F800000#32 = (⊤ : EReal) := by
  simp [Ideal.ofBits, Ideal.ieee]

/-! ## The reduction keeping the nearest template -/

/-- The reducer keeps the earlier pair in the order by value, then by index. -/
theorem reducer_eq (a b : Ideal .f32 × BitVec 32) :
    reducer_argmin_f32_i32 a b = if (a.1 : EReal) < b.1 ∨ ((a.1 : EReal) = b.1 ∧ a.2.toInt < b.2.toInt) then a else b := by
  obtain ⟨a1, a2⟩ := a
  obtain ⟨b1, b2⟩ := b
  unfold reducer_argmin_f32_i32
  dsimp only
  have o : ∀ b : BitVec 1, 1#1 ||| b = 1#1 := by decide
  simp only [Ideal.cmpf_def, Ideal.cmp, IntOp.cmpi, Scalar.select, IntOp.ori, IntOp.andi]
  by_cases h1 : (a1 : EReal) < b1
  · simp [h1, o]
  · by_cases h2 : (a1 : EReal) = b1
    · by_cases h3 : a2.toInt < b2.toInt <;> simp [h2, h3, BitVec.slt]
    · simp [h1, h2]

/-- A pair comes no later than another. -/
def Le (a b : Ideal .f32 × BitVec 32) : Prop := (a.1 : EReal) < b.1 ∨ ((a.1 : EReal) = b.1 ∧ a.2.toInt ≤ b.2.toInt)

/-- A pair comes no later than itself. -/
theorem Le.refl (a : Ideal .f32 × BitVec 32) : Le a a := Or.inr ⟨rfl, le_rfl⟩

/-- The order of pairs is transitive. -/
theorem Le.trans {a b c : Ideal .f32 × BitVec 32} (h : Le a b) (h' : Le b c) : Le a c := by
  rcases h with h | ⟨h, i⟩ <;> rcases h' with h' | ⟨h', i'⟩
  · exact Or.inl (h.trans h')
  · exact Or.inl (h.trans_eq h')
  · exact Or.inl (h.trans_lt h')
  · exact Or.inr ⟨h.trans h', i.trans i'⟩

/-- The fold's result is one of the pairs and comes no later than any. -/
theorem fold_le (l : List (Ideal .f32 × BitVec 32)) : ∀ b, (l.foldl reducer_argmin_f32_i32 b = b ∨ l.foldl reducer_argmin_f32_i32 b ∈ l)
    ∧ Le (l.foldl reducer_argmin_f32_i32 b) b ∧ ∀ p ∈ l, Le (l.foldl reducer_argmin_f32_i32 b) p := by
  induction l with
  | nil => exact fun b => ⟨Or.inl rfl, Le.refl b, fun p hp => absurd hp (List.not_mem_nil)⟩
  | cons q l ih =>
    intro b
    rw [List.foldl_cons]
    obtain ⟨hm, hb, hl⟩ := ih (reducer_argmin_f32_i32 b q)
    have hs : Le (reducer_argmin_f32_i32 b q) b ∧ Le (reducer_argmin_f32_i32 b q) q
        ∧ (reducer_argmin_f32_i32 b q = b ∨ reducer_argmin_f32_i32 b q = q) := by
      rw [reducer_eq]
      split
      · rename_i h
        exact ⟨Le.refl b, h.imp id (fun h => ⟨h.1, h.2.le⟩), Or.inl rfl⟩
      · rename_i h
        refine ⟨?_, Le.refl q, Or.inr rfl⟩
        rcases lt_trichotomy (b.1 : EReal) q.1 with h1 | h1 | h1
        · exact absurd (Or.inl h1) h
        · exact Or.inr ⟨h1.symm, not_lt.mp fun h2 => h (Or.inr ⟨h1, h2⟩)⟩
        · exact Or.inl h1
    refine ⟨?_, hb.trans hs.1, fun p hp => ?_⟩
    · rcases hm with hm | hm
      · rcases hs.2.2 with h | h
        · exact Or.inl (hm.trans h)
        · exact Or.inr (List.mem_cons.mpr (Or.inl (hm.trans h)))
      · exact Or.inr (List.mem_cons_of_mem q hm)
    · rcases List.mem_cons.mp hp with rfl | hp
      · exact hb.trans hs.2.1
      · exact hl p hp

/-- Dropping the template axis keeps the other two coordinates. -/
theorem drop_val (i : S16x64x4096.Idx) :
    (reducesTo_S16x64x4096_S16x4096_d1.drop i 0 : ℕ) = i 0 ∧ (reducesTo_S16x64x4096_S16x4096_d1.drop i 1 : ℕ) = i 2 :=
  ⟨Shape.ReducesTo.drop_apply_val_of_eq _ i 0 0, Shape.ReducesTo.drop_apply_val_of_eq _ i 1 2⟩

/-- The entry of point `(a, P)` and any template drops to that point. -/
theorem drop_at (a : Fin 16) (n : Fin 64) (P : Fin 4096) : reducesTo_S16x64x4096_S16x4096_d1.drop (ix3 a n P) = ix2 a P := by
  funext b
  fin_cases b
  · exact Fin.ext (drop_val (ix3 a n P)).1
  · exact Fin.ext (drop_val (ix3 a n P)).2

/-- An entry that drops to point `(a, P)` is that point's, at some template. -/
theorem eq_of_drop (a : Fin 16) (P : Fin 4096) (i : S16x64x4096.Idx) (h : reducesTo_S16x64x4096_S16x4096_d1.drop i = ix2 a P) :
    ∃ n : Fin 64, i = ix3 a n P := by
  refine ⟨i 1, ?_⟩
  funext b
  fin_cases b
  · exact Fin.ext ((drop_val i).1.symm.trans (congrArg (fun j : S16x4096.Idx => (j 0 : ℕ)) h))
  · rfl
  · exact Fin.ext ((drop_val i).2.symm.trans (congrArg (fun j : S16x4096.Idx => (j 1 : ℕ)) h))

section
variable (D : FVec Ideal S16x64x4096 .f32) (a : Fin 16) (P : Fin 4096)

/-- The pairs reduced at one point: the distance of each template with its number. -/
theorem mem_fiber (p : Ideal .f32 × BitVec 32) :
    p ∈ Host.argReduceFiber D (iotaInDim S16x64x4096 32 1) reducesTo_S16x64x4096_S16x4096_d1 (ix2 a P)
      ↔ ∃ n : Fin 64, p = (D (ix3 a n P), BitVec.ofNat 32 n.val) := by
  unfold Host.argReduceFiber
  rw [List.mem_map]
  constructor
  · rintro ⟨w, hw, rfl⟩
    have hd : reducesTo_S16x64x4096_S16x4096_d1.drop (S16x64x4096.rowMajor.symm w) = ix2 a P := by
      have := (List.mem_filter.mp hw).2
      exact of_decide_eq_true this
    obtain ⟨n, e⟩ := eq_of_drop a P _ hd
    refine ⟨n, ?_⟩
    rw [e]
    rfl
  · rintro ⟨n, rfl⟩
    refine ⟨S16x64x4096.rowMajor (ix3 a n P), List.mem_filter.mpr ⟨List.mem_finRange _, ?_⟩, ?_⟩
    · rw [Equiv.symm_apply_apply]
      exact decide_eq_true (drop_at a n P)
    · rw [Equiv.symm_apply_apply]
      rfl

/-- The index is the second part of whatever the pairs' reduction is. -/
theorem refArg_snd (E : S16x4096.Idx → Ideal .f32 × BitVec 32)
    (h : Host.argReduce reducer_argmin_f32_i32 D (iotaInDim S16x64x4096 32 1) (constant S_ .f32 0x7F800000#32) (constantI S_ 32 0#32)
      reducesTo_S16x64x4096_S16x4096_d1 h_S_ = E) : refArg D = fun j => (E j).2 := by
  delta refArg
  rw [h]

/-- The second part of a family of pairs, at one index. -/
theorem snd_at {ι β γ : Type} (g : ι → γ) (E : ι → β × γ) (h : g = fun j => (E j).2) (j : ι) (v : β × γ) (h' : E j = v) : g j = v.2 := by
  subst h
  subst h'
  rfl

/-- The reference's index is the fold over those pairs. -/
theorem refArg_fold : refArg D (ix2 a P)
    = ((Host.argReduceFiber D (iotaInDim S16x64x4096 32 1) reducesTo_S16x64x4096_S16x4096_d1 (ix2 a P)).foldl
      reducer_argmin_f32_i32 (((⊤ : EReal), 0#32) : Ideal .f32 × BitVec 32)).2 := by
  have h2 := Host.reduce2_eq_foldl_fiber (α := Ideal .f32) reducer_argmin_f32_i32 D (iotaInDim S16x64x4096 32 1) (constant S_ .f32 0x7F800000#32)
    (constantI S_ 32 0#32) reducesTo_S16x64x4096_S16x4096_d1 h_S_ (ix2 a P)
  have h3 : ((constant S_ .f32 0x7F800000#32 : FVec Ideal S_ .f32) (Shape.Idx.first h_S_), (constantI S_ 32 0#32 : IVec S_ 32) (Shape.Idx.first h_S_))
      = (((⊤ : EReal), 0#32) : Ideal .f32 × BitVec 32) := Prod.ext top_bits rfl
  rw [h3] at h2
  exact snd_at _ _ (refArg_snd D _ (Ideal.argReduce_eq_reduce2 (φ := .f32) _ _ _ _ _ _ _)) _ _ h2

end

/-- A pair no later than each template's, being one of them, names the nearest. -/
theorem best_of (e : Fin 64 → Ideal .f32) (he : ∀ n, (e n : EReal) < ⊤) (r : Ideal .f32 × BitVec 32)
    (hm : r = ((⊤ : EReal), 0#32) ∨ ∃ n : Fin 64, r = (e n, BitVec.ofNat 32 n.val)) (hl : ∀ n : Fin 64, Le r (e n, BitVec.ofNat 32 n.val)) :
    ∃ k, Best (fun n => (e (n64 n) : EReal)) 64 k ∧ r.2 = BitVec.ofNat 32 k := by
  have hk : ∃ k : Fin 64, r = (e k, BitVec.ofNat 32 k.val) := by
    rcases hm with rfl | hm
    · exact absurd (hl 0) (fun h => h.elim (fun h => not_top_lt h) (fun h => (he 0).ne h.1.symm))
    · exact hm
  obtain ⟨k, rfl⟩ := hk
  have e64 : ∀ n : Fin 64, n64 n.val = n := fun n => Fin.ext (Nat.mod_eq_of_lt n.isLt)
  have int : ∀ n : Fin 64, (BitVec.ofNat 32 n.val).toInt = (n.val : ℤ) := by decide
  refine ⟨k.val, ⟨k.isLt, fun n hn => ?_, fun n hn => ?_⟩, rfl⟩
  · show (e (n64 k.val) : EReal) ≤ e (n64 n)
    rw [e64, show n64 n = ⟨n, hn⟩ from e64 ⟨n, hn⟩]
    exact (hl ⟨n, hn⟩).elim (fun h => h.le) (fun h => h.1.le)
  · have hn' := hn.trans k.isLt
    show (e (n64 k.val) : EReal) < e (n64 n)
    rw [e64, show n64 n = ⟨n, hn'⟩ from e64 ⟨n, hn'⟩]
    refine (hl ⟨n, hn'⟩).elim id (fun h => ?_)
    have h2 : (BitVec.ofNat 32 k.val).toInt ≤ (BitVec.ofNat 32 (⟨n, hn'⟩ : Fin 64).val).toInt := h.2
    rw [int, int] at h2
    exact absurd (Int.ofNat_le.mp h2) (not_le.mpr hn)

section
variable (D : FVec Ideal S16x64x4096 .f32) (a : Fin 16) (P : Fin 4096)

/-- The reference's index of the nearest template, where every distance is finite. -/
theorem refArg_best (hD : ∀ n, (D (ix3 a n P) : EReal) < ⊤) :
    ∃ k, Best (fun n => (D (ix3 a (n64 n) P) : EReal)) 64 k ∧ refArg D (ix2 a P) = BitVec.ofNat 32 k := by
  obtain ⟨hm, -, hl⟩ := fold_le (Host.argReduceFiber D (iotaInDim S16x64x4096 32 1) reducesTo_S16x64x4096_S16x4096_d1 (ix2 a P))
    ((⊤ : EReal), 0#32)
  obtain ⟨k, hk, e⟩ := best_of (fun n => D (ix3 a n P)) hD _ (hm.imp id (fun h => (mem_fiber D a P _).mp h))
    (fun n => hl _ ((mem_fiber D a P _).mpr ⟨n, rfl⟩))
  exact ⟨k, hk, (refArg_fold D a P).trans e⟩

/-- The reference's least distance at one point. -/
theorem refMin_at : refMin D (ix2 a P) = Finset.univ.fold min ⊤ (fun n : Fin 64 => (D (ix3 a n P) : EReal)) := by
  unfold refMin
  pointwise
  rw [top_bits]

/-- The reference's least distance is the nearest template's. -/
theorem refMin_best {k : ℕ} (h : Best (fun n => (D (ix3 a (n64 n) P) : EReal)) 64 k) : refMin D (ix2 a P) = D (ix3 a (n64 k) P) := by
  rw [refMin_at]
  refine le_antisymm ((Finset.fold_min_le _).mpr (Or.inr ⟨n64 k, Finset.mem_univ _, le_rfl⟩)) ((Finset.le_fold_min _).mpr ⟨le_top, fun n _ => ?_⟩)
  have := h.2.1 n.val n.isLt
  have e : n64 n.val = n := Fin.ext (Nat.mod_eq_of_lt n.isLt)
  dsimp only at this
  rw [e] at this
  exact this

end

end Cert.ReferenceIdeal.Near
-- ==== Proof.RefVal.lean ====
/- The reference's results at the extended reals, entry by entry, for finite inputs. -/
module

public import proofs.«01_k».proof.Proof.RefArg
public import proofs.«01_k».proof.Proof.Points
public import proofs.«01_k».proof.Proof.Gen.Pre_finite_arrays
public import proofs.«01_k».proof.Pre_finite_arrays
public import Idealize.ShloMosaic.Lib.Pointwise
public import Idealize.ShloMosaic.Lib.StableHlo.Predicate

@[expose] public section

set_option maxRecDepth 16384

noncomputable section

namespace Cert.ReferenceIdeal.Near

open Cert.ReferenceIdeal Cert.ReferenceIdeal.Gen
open Idealize.ShloMosaic Idealize.ShloMosaic.TcCoe Idealize.ShloMosaic.StableHlo Idealize.SL.Sem
open Cert.KernelIdeal.Near (Best n64 dst two_bits)

/-! ## Finite inputs -/

section
variable (x : FVec Ideal S16x4096x256 .f32) (t : FVec Ideal S64x4096x256 .f32)

/-- A value whose magnitude is below the top is a real. -/
theorem real_of_abs {v : EReal} (h : max v (-v) < ⊤) : ((v.toReal : ℝ) : EReal) = v :=
  EReal.coe_toReal (fun e => by rw [e] at h; simp at h) (fun e => by rw [e] at h; simp at h)

/-- The two conditions a set bit states. -/
theorem both_of_and {p q : Prop} [Decidable p] [Decidable q]
    (h : IntOp.andi (BitVec.ofBool (decide p)) (BitVec.ofBool (decide q)) = 1#1) : p ∧ q := by
  by_cases hp : p <;> by_cases hq : q <;> simp_all [IntOp.andi]

/-- The precondition: every input entry is a real. -/
theorem reals (cl : IVec S64 32) (h : Cert.Pre_finite_arrays.fn (F := Ideal) x t cl = fun _ => 1#1) (a : Fin 16) (n : Fin 64) (P : Fin 4096)
    (d : Fin 256) : (((x (ix3 a P d) : EReal).toReal : ℝ) : EReal) = x (ix3 a P d) ∧ (((t (ix3 n P d) : EReal).toReal : ℝ) : EReal) = t (ix3 n P d) := by
  have h1 := congrFun h (ix4 a n P d)
  unfold Cert.Pre_finite_arrays.fn at h1
  dsimp only at h1
  pointwise at h1
  have h2 := both_of_and h1
  rw [top_bits] at h2
  exact ⟨real_of_abs h2.1, real_of_abs h2.2⟩

/-- A sum of reals, read as an extended real, is the sum of the terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of a difference, added up over reals: the squares less twice the products. -/
theorem expand (f g : Fin 256 → ℝ) :
    (∑ d, Ideal.pow ((f d : EReal) - (g d : EReal)) ((2 : ℝ) : EReal))
      = (∑ d, (f d : EReal) * (f d : EReal)) + (∑ d, (g d : EReal) * (g d : EReal)) - ((2 : ℝ) : EReal) * ∑ d, (f d : EReal) * (g d : EReal)
    ∧ (∑ d, Ideal.pow ((f d : EReal) - (g d : EReal)) ((2 : ℝ) : EReal)) < ⊤ := by
  have e : ∀ d, Ideal.pow ((f d : EReal) - (g d : EReal)) ((2 : ℝ) : EReal) = (((f d - g d) ^ 2 : ℝ) : EReal) := fun d => by
    rw [← EReal.coe_sub, Ideal.pow_coe_coe]
    exact congrArg _ (Real.rpow_two _)
  simp only [e]
  simp only [← EReal.coe_mul, ← coe_sum, ← EReal.coe_add, ← EReal.coe_sub]
  refine ⟨congrArg (fun r : ℝ => (r : EReal)) ?_, EReal.coe_lt_top _⟩
  rw [Finset.mul_sum, ← Finset.sum_add_distrib, ← Finset.sum_sub_distrib]
  exact Finset.sum_congr rfl fun d _ => by ring

/-- The reference's distance at one entry: the squared differences added up. -/
theorem refDist_at (a : Fin 16) (n : Fin 64) (P : Fin 4096) :
    refDist x t (ix3 a n P) = ∑ d : Fin 256, Ideal.pow ((x (ix3 a P d) : EReal) - t (ix3 n P d)) ((2 : ℝ) : EReal) := by
  unfold refDist refDiff
  pointwise
  rw [two_bits]

/-- On finite inputs the reference's distance is the kernel's expanded one, and it is finite. -/
theorem refDist_eq (cl : IVec S64 32) (h : Cert.Pre_finite_arrays.fn (F := Ideal) x t cl = fun _ => 1#1) (a : Fin 16) (n : Fin 64) (P : Fin 4096) :
    refDist x t (ix3 a n P) = dst x t a P n ∧ (refDist x t (ix3 a n P) : EReal) < ⊤ := by
  have hx := fun d => (reals x t cl h a n P d).1
  have ht := fun d => (reals x t cl h a n P d).2
  have e := expand (fun d => (x (ix3 a P d) : EReal).toReal) (fun d => (t (ix3 n P d) : EReal).toReal)
  simp only [hx, ht] at e
  rw [refDist_at]
  exact e

end

/-- A mask at one point. -/
theorem refMask_at (w : BitVec 32) (mn : FVec Ideal S16x4096 .f32) (i : S16x4096.Idx) :
    refMask w mn i = Ideal.cmp .ole (mn i) (Ideal.ofBits .f32 w) := rfl

/-- The class table read at start indices. -/
theorem gather_at (cl : IVec S64 32) (idx : IVec S16x4096x1 32) (a : Fin 16) (P : Fin 4096) (k : Fin 64)
    (h : (idx (ix3 a P 0)).toInt.toNat = k.val) :
    Host.gather gather_S64_S16x4096x1_S16x4096_n_0_n_n_0_2_1 cl idx (ix2 a P) = cl (ix1 k) := by
  unfold Host.gather
  refine congrArg cl (funext fun b => ?_)
  fin_cases b
  refine Fin.ext ?_
  show min (idx _).toInt.toNat 63 + 0 + 0 = k.val
  have e : ∀ i, i = ix3 a P 0 → min (idx i).toInt.toNat 63 + 0 + 0 = k.val := by
    rintro _ rfl
    rw [h]
    omega
  refine e _ ?_
  funext b
  fin_cases b <;> rfl

/-- A template's number is no negative index. -/
theorem start_word : ∀ k : Fin 64, (Scalar.select (IntOp.cmpi .slt (BitVec.ofNat 32 k.val) 0#32) (IntOp.addi (BitVec.ofNat 32 k.val) 64#32)
    (BitVec.ofNat 32 k.val)).toInt.toNat = k.val := by decide

/-- The class at one point is that of the template whose number the index holds. -/
theorem refCls_at (cl : IVec S64 32) (ix : IVec S16x4096 32) (a : Fin 16) (P : Fin 4096) (k : Fin 64) (h : ix (ix2 a P) = BitVec.ofNat 32 k.val) :
    refCls cl ix (ix2 a P) = cl (ix1 k) := by
  unfold refCls
  refine gather_at cl _ a P k ?_
  pointwise
  rw [h]
  exact start_word k

/-- The reference at one point, on finite inputs: the nearest template's distance and class. -/
theorem ref_at (x : FVec Ideal S16x4096x256 .f32) (t : FVec Ideal S64x4096x256 .f32) (cl : IVec S64 32)
    (h : Cert.Pre_finite_arrays.fn (F := Ideal) x t cl = fun _ => 1#1) (a : Fin 16) (P : Fin 4096) :
    ∃ k, Best (fun n => dst x t a P (n64 n)) 64 k ∧ refMin (refDist x t) (ix2 a P) = dst x t a P (n64 k)
      ∧ refCls cl (refArg (refDist x t)) (ix2 a P) = cl (ix1 (n64 k)) := by
  obtain ⟨k, hk, e⟩ := refArg_best (refDist x t) a P (fun n => (refDist_eq x t cl h a n P).2)
  have hm := refMin_best (refDist x t) a P hk
  have hd : (fun n => (refDist x t (ix3 a (n64 n) P) : EReal)) = fun n => dst x t a P (n64 n) :=
    funext fun n => (refDist_eq x t cl h a (n64 n) P).1
  rw [hd] at hk
  have hn : (n64 k).val = k := Nat.mod_eq_of_lt hk.1
  refine ⟨k, hk, hm.trans (refDist_eq x t cl h a (n64 k) P).1, refCls_at cl _ a P (n64 k) ?_⟩
  rw [hn]
  exact e

end Cert.ReferenceIdeal.Near
-- ==== Proof.Values.lean ====
/- The kernel's five results are the reference's, on finite inputs. -/
module

public import proofs.«01_k».proof.Proof.Arrays
public import proofs.«01_k».proof.Proof.RefVal

@[expose] public section

set_option maxRecDepth 16384

noncomputable section

namespace Cert.KernelIdeal.Near

open Cert.KernelIdeal Cert.KernelIdeal.Gen
open Idealize.ShloMosaic Idealize.ShloMosaic.TcCoe Idealize.SL.Sem
open Cert.ReferenceIdeal.Near (refMin refDist refArg refMask refCls refMask_at ref_at)

variable (m : (ℓ : Loc nD τ sig) → Buf (Elt Ideal) ℓ) (c : Dev nD)

/-- The reference's least distances and classes of the kernel's arguments. -/
def refM : FVec Ideal S16x4096 .f32 := refMin (F := Ideal) (refDist (F := Ideal) (xs m c) (ts m c))
/-- The reference's classes of the kernel's arguments. -/
def refC : IVec S16x4096 32 := refCls (cs m c) (refArg (F := Ideal) (refDist (F := Ideal) (xs m c) (ts m c)))

variable
  (hp : Cert.Pre_finite_arrays.fn (F := Ideal) (xs m c) (ts m c) (cs m c) = fun _ => 1#1)
include hp

/-- The reference at one point, in the kernel's arguments. -/
theorem ref_best (i : S16x4096.Idx) : ∃ k, Best (dsts m c i) 64 k ∧ (refM m c i : EReal) = dsts m c i k
    ∧ refC m c i = clss m k := by
  have e : i = ix2 (i 0) (i 1) := by
    funext b
    fin_cases b <;> rfl
  obtain ⟨k, hk, h1, h2⟩ := ref_at (xs m c) (ts m c) (cs m c) hp (i 0) (i 1)
  refine ⟨k, hk, (congrArg _ e).trans h1, (congrArg _ e).trans (h2.trans ?_)⟩
  rw [show c = 0 from Subsingleton.elim _ _]

/-- What the kernel holds of the best is what the reference does. -/
theorem match_ref {β : Type} (g h : S16x4096.Idx → β) (v : S16x4096.Idx → ℕ → β) (hg : ∀ i, ∃ k, Best (dsts m c i) 64 k ∧ g i = v i k)
    (hh : ∀ i k, Best (dsts m c i) 64 k → (refM m c i : EReal) = dsts m c i k →
      refC m c i = clss m k → h i = v i k) : g = h := by
  funext i
  obtain ⟨k, hk, e⟩ := hg i
  obtain ⟨k', hk', e1, e2⟩ := ref_best m c hp i
  cases hk.unique hk'
  exact e.trans (hh i k hk e1 e2).symm

/-- A mask of the best distance is the reference's. -/
theorem mask_of (w : BitVec 32) (f : IVec S16x4096 1)
    (hf : ∀ i, ∃ k, Best (dsts m c i) 64 k ∧ f i = Ideal.cmp .ole (dsts m c i k) (Ideal.ofBits .f32 w)) :
    f = refMask (F := Ideal) w (refM m c) := by
  refine match_ref m c hp f _ (fun i k => Ideal.cmp .ole (dsts m c i k) (Ideal.ofBits .f32 w)) hf fun i k _ h _ => ?_
  rw [refMask_at, h]

/-- The mask at threshold 50. -/
theorem mask0 : (fin m c main_v3 : IVec S16x4096 1) = refMask (F := Ideal) 0x42480000#32 (refM m c) :=
  mask_of m c hp _ _ fun i => fin_v3 m c i
/-- The mask at threshold 100. -/
theorem mask1 : (fin m c main_v6 : IVec S16x4096 1) = refMask (F := Ideal) 0x42C80000#32 (refM m c) :=
  mask_of m c hp _ _ fun i => fin_v6 m c i
/-- The mask at threshold 200. -/
theorem mask2 : (fin m c main_v9 : IVec S16x4096 1) = refMask (F := Ideal) 0x43480000#32 (refM m c) :=
  mask_of m c hp _ _ fun i => fin_v9 m c i
/-- The least distances. -/
theorem mins : ((dats m (ok m) 0 c).arrAt 5 (cfgM m (ok m)).N : FVec Ideal S16x4096 .f32) = refM m c :=
  match_ref m c hp _ _ _ (arr5 m c) fun _ _ _ h _ => h
/-- The classes of the nearest templates. -/
theorem classes : ((dats m (ok m) 0 c).arrAt 6 (cfgM m (ok m)).N : IVec S16x4096 32)
    = refC m c :=
  match_ref m c hp _ _ (fun _ => clss m) (arr6 m c) fun _ _ _ _ h => h

end Cert.KernelIdeal.Near
-- ==== Proof.Algebraic.lean ====
/- The two programs at the extended reals, run from memories agreeing on the arguments, end with equal results. -/
module

public import proofs.«01_k».proof.Defs
public import proofs.«01_k».proof.Proof.Values
public import Idealize.ShloMosaic.Adequacy

@[expose] public section

noncomputable section

namespace Cert.ReferenceIdeal.Near

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The reference terminates, its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c main_arg0).trans (arg0_eq _), (h.1 c main_arg1).trans (arg1_eq _),
    (h.1 c main_arg2).trans (arg2_eq _)⟩, h.2⟩) (run_all m ρ)

end Cert.ReferenceIdeal.Near

namespace Cert.KernelIdeal.Near

open Cert.KernelIdeal Cert.KernelIdeal.Gen
open Idealize.ShloMosaic Idealize.ShloMosaic.TcCoe Idealize.SL.Sem
open Cert.ReferenceIdeal.Near (refMin refDist refArg refMask refCls)

variable (m : (ℓ : Loc nD τ sig) → Buf (Elt Ideal) ℓ) (ρ : Dev nD → PrngReg)

/-- The kernel's results, on finite inputs, are the reference's functions of its arguments. -/
theorem results (hp : ∀ c : Dev nD, Cert.Pre_finite_arrays.fn (F := Ideal) (xs m c) (ts m c) (cs m c) = fun _ => 1#1) :
    θ_run defs (onTc (τ := τ) (main (F := Ideal))) ⟨m, fun _ => 0, ρ⟩ (fun r => ∀ c : Dev nD,
      r.2.mem ((c.tc : Thread nD τ).loc main_v3) = (refMask (F := Ideal) 0x42480000#32 (refM m c) : IVec S16x4096 1)
      ∧ r.2.mem ((c.tc : Thread nD τ).loc main_v6) = (refMask (F := Ideal) 0x42C80000#32 (refM m c) : IVec S16x4096 1)
      ∧ r.2.mem ((c.tc : Thread nD τ).loc main_v9) = (refMask (F := Ideal) 0x43480000#32 (refM m c) : IVec S16x4096 1)
      ∧ r.2.mem ((c.tc : Thread nD τ).loc main_v0_3) = (refM m c : FVec Ideal S16x4096 .f32)
      ∧ r.2.mem ((c.tc : Thread nD τ).loc main_v0_4) = (refC m c : IVec S16x4096 32)) :=
  (θ_run defs _ _).mono (fun _ h c => ⟨((h c).2 main_v3 (by decide : main_v3 ∈ Pipeline.restRefs sig spec0)).trans (mask0 m c (hp c)), ((h c).2 main_v6 (by decide : main_v6 ∈ Pipeline.restRefs sig spec0)).trans (mask1 m c (hp c)),
    ((h c).2 main_v9 (by decide : main_v9 ∈ Pipeline.restRefs sig spec0)).trans (mask2 m c (hp c)), ((h c).1 5).trans (mins m c (hp c)), ((h c).1 6).trans (classes m c (hp c))⟩)
    (run_main m ρ (ok m))

end Cert.KernelIdeal.Near

namespace Cert.Near

open Idealize.ShloMosaic Idealize.ShloMosaic.TcCoe Idealize.SL.Sem
open Cert.ReferenceIdeal.Near (refMask min_eq mask0_eq mask1_eq mask2_eq cls_eq run_all)
open Cert.KernelIdeal.Near (refM refC)

/-- The algebraic claim: on finite inputs the two programs end with equal results and unchanged arguments. -/
theorem algebraic : algebraic_KernelIdeal_ReferenceIdeal_pre_finite_arrays (hKernelIdeal := Cert.KernelIdeal.Gen.facts)
    (hReferenceIdeal := Cert.ReferenceIdeal.Gen.facts) (hPre_finite_arrays := Cert.Pre_finite_arrays.Gen.facts) := by
  intro m g m' g' hp ha
  refine ⟨fun c => (refMask (F := Ideal) 0x42480000#32 (refM m c) : IVec Cert.KernelIdeal.S16x4096 1),
    fun c => (refMask (F := Ideal) 0x42C80000#32 (refM m c) : IVec Cert.KernelIdeal.S16x4096 1),
    fun c => (refMask (F := Ideal) 0x43480000#32 (refM m c) : IVec Cert.KernelIdeal.S16x4096 1),
    fun c => (refM m c : FVec Ideal Cert.KernelIdeal.S16x4096 .f32), fun c => (refC m c : IVec Cert.KernelIdeal.S16x4096 32), ?_, ?_⟩
  · refine (θ_run _ _ _).mono (fun r h c => ?_) (θ_run_and (Cert.KernelIdeal.Near.results m g hp) (Cert.KernelIdeal.Near.unchanged m g trivial))
    exact ⟨(h.1 c).1, (h.1 c).2.1, (h.1 c).2.2.1, (h.1 c).2.2.2.1, (h.1 c).2.2.2.2, (h.2 c).1, (h.2 c).2.1, (h.2 c).2.2⟩
  · refine (θ_run _ _ _).mono (fun r h c => ?_) (θ_run_and (run_all m' g') (Cert.ReferenceIdeal.Near.frame m' g'))
    have e0 := (ha c).1
    have e1 := (ha c).2.1
    have e2 := (ha c).2.2
    have hM : Cert.ReferenceIdeal.Near.refMin (F := Ideal) (Cert.ReferenceIdeal.Near.refDist (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))) = refM m c := by
      rw [e0, e1]
      rfl
    have hC : Cert.ReferenceIdeal.Near.refCls (m' ((c.tc : Thread Cert.ReferenceIdeal.nD Cert.ReferenceIdeal.τ).loc Cert.ReferenceIdeal.main_arg2))
        (Cert.ReferenceIdeal.Near.refArg (F := Ideal) (Cert.ReferenceIdeal.Near.refDist (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))) = refC m c := by
      rw [e0, e1, e2]
      rfl
    have hf := h.2.1 c
    exact ⟨((h.1.1 c Cert.ReferenceIdeal.main_v11).trans (mask0_eq _)).trans (congrArg _ hM),
      ((h.1.1 c Cert.ReferenceIdeal.main_v13).trans (mask1_eq _)).trans (congrArg _ hM),
      ((h.1.1 c Cert.ReferenceIdeal.main_v15).trans (mask2_eq _)).trans (congrArg _ hM),
      ((h.1.1 c Cert.ReferenceIdeal.main_v8).trans (min_eq _)).trans hM,
      ((h.1.1 c Cert.ReferenceIdeal.main_v22).trans (cls_eq _)).trans hC, hf.1, hf.2.1, hf.2.2⟩

end Cert.Near
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Pre_finite_arrays
public import proofs.«01_k».proof.Proof.Copy
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_arrays.Gen.facts,
  Cert.Near.frame_copy,
  fun m g _ => Cert.KernelIdeal.Near.frame m g trivial,
  fun m g _ => Cert.KernelIdeal.Near.frame m g trivial,
  fun m g _ => Cert.ReferenceIdeal.Near.frame m g,
  fun m g _ => Cert.ReferenceIdeal.Near.frame m g,
  trivial, Cert.Near.algebraic⟩

end Cert.Proof

end
